-- ==== Defs.lean ====
def Pre_Kernel [hPre_tasks_in_range : Cert.Pre_tasks_in_range.Facts] (m : (ℓ : Loc Cert.Kernel.nD Cert.Kernel.τ Cert.Kernel.sig) → Buf (Elt Bits) ℓ) : Prop :=
  ∀ c : Dev Cert.Kernel.nD,
    (Cert.Pre_tasks_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_tasks_in_range : Cert.Pre_tasks_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tasks_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tasks_in_range [hPre_tasks_in_range : Cert.Pre_tasks_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tasks_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_tasks_in_range : Cert.Pre_tasks_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_tasks_in_range : Cert.Pre_tasks_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_tasks_in_range [hReferenceIdeal : Cert.ReferenceIdeal.Facts] [hPre_tasks_in_range : Cert.Pre_tasks_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tasks_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tasks_in_range : Cert.Pre_tasks_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_tasks_in_range : Cert.Pre_tasks_in_range.Facts),
    quiescent_Kernel (hKernel := hKernel) (hPre_tasks_in_range := hPre_tasks_in_range)
    ∧ quiescent_KernelIdeal (hKernelIdeal := hKernelIdeal) (hPre_tasks_in_range := hPre_tasks_in_range)
    ∧ quiescent_ReferenceIdeal (hReferenceIdeal := hReferenceIdeal)
    ∧ quiescent_ReferenceIdeal_pre_tasks_in_range (hReferenceIdeal := hReferenceIdeal) (hPre_tasks_in_range := hPre_tasks_in_range)
    ∧ preserves_Kernel_KernelIdeal
    ∧ algebraic_KernelIdeal_ReferenceIdeal (hKernelIdeal := hKernelIdeal) (hReferenceIdeal := hReferenceIdeal) (hPre_tasks_in_range := hPre_tasks_in_range)
-- ==== Pre_tasks_in_range.lean ====
abbrev S16384 : Shape := ⟨1, ![16384]⟩
abbrev S100x1 : Shape := ⟨2, ![100, 1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S100x1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 100#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S16384 : Shape := ⟨1, ![16384]⟩
abbrev S100x1 : Shape := ⟨2, ![100, 1]⟩
abbrev S100 : Shape := ⟨1, ![100]⟩
abbrev S1024 : Shape := ⟨1, ![1024]⟩
abbrev S_ : Shape := ⟨0, ![]⟩
abbrev S256 : Shape := ⟨1, ![256]⟩
abbrev S16 : Shape := ⟨1, ![16]⟩
abbrev S16384x1x1x1 : Shape := ⟨4, ![16384, 1, 1, 1]⟩

abbrev nBuf : Table → Nat
  | .hbm => 5
  | .local .scVector .vmem => 3
  | _ => 0

abbrev bufTy : (tb : Table) → Fin (nBuf tb) → BufTy
  | .hbm, ⟨0, _⟩ => ⟨S16384, .i32⟩
  | .hbm, ⟨1, _⟩ => ⟨S100x1, .f32⟩
  | .hbm, ⟨2, _⟩ => ⟨S100, .f32⟩
  | .hbm, ⟨3, _⟩ => ⟨S16384, .f32⟩
  | .hbm, ⟨4, _⟩ => ⟨S16384x1x1x1, .f32⟩
  | .local .scVector .vmem, ⟨0, _⟩ => ⟨S1024, .i32⟩
  | .local .scVector .vmem, ⟨1, _⟩ => ⟨S100, .f32⟩
  | .local .scVector .vmem, ⟨2, _⟩ => ⟨S1024, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) (c0_i32 : BitVec 32) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let v3 : BitVec 32 := Scalar.addi v2 c0_i32
  ![v3.toNat]

def k0_chk1 (v27 : IVec S16 32) : Prop :=
  (∀ a x, ((![v27] : Fin 1 → IVec S16 32) a x).toNat < S100.size a)
theorem k0_idx1_inb : ∀ (v27 : IVec S16 32) (k0_hw1 : k0_chk1 v27), ∀ a x, ((![v27] : Fin 1 → IVec S16 32) a x).toNat < S100.size a := fun v27 k0_hw1 => k0_hw1

def k0_chk2 (v30 : IVec S16 32) : Prop :=
  (∀ a x, ((![v30] : Fin 1 → IVec S16 32) a x).toNat < S100.size a)
theorem k0_idx2_inb : ∀ (v30 : IVec S16 32) (k0_hw2 : k0_chk2 v30), ∀ a x, ((![v30] : Fin 1 → IVec S16 32) a x).toNat < S100.size a := fun v30 k0_hw2 => k0_hw2

def k0_chk3 (v33 : IVec S16 32) : Prop :=
  (∀ a x, ((![v33] : Fin 1 → IVec S16 32) a x).toNat < S100.size a)
theorem k0_idx3_inb : ∀ (v33 : IVec S16 32) (k0_hw3 : k0_chk3 v33), ∀ a x, ((![v33] : Fin 1 → IVec S16 32) a x).toNat < S100.size a := fun v33 k0_hw3 => k0_hw3

def k0_chk4 (v36 : IVec S16 32) : Prop :=
  (∀ a x, ((![v36] : Fin 1 → IVec S16 32) a x).toNat < S100.size a)
theorem k0_idx4_inb : ∀ (v36 : IVec S16 32) (k0_hw4 : k0_chk4 v36), ∀ a x, ((![v36] : Fin 1 → IVec S16 32) a x).toNat < S100.size a := fun v36 k0_hw4 => k0_hw4

def k0_chk5 (v39 : IVec S16 32) : Prop :=
  (∀ a x, ((![v39] : Fin 1 → IVec S16 32) a x).toNat < S100.size a)
theorem k0_idx5_inb : ∀ (v39 : IVec S16 32) (k0_hw5 : k0_chk5 v39), ∀ a x, ((![v39] : Fin 1 → IVec S16 32) a x).toNat < S100.size a := fun v39 k0_hw5 => k0_hw5

def k0_chk6 (v42 : IVec S16 32) : Prop :=
  (∀ a x, ((![v42] : Fin 1 → IVec S16 32) a x).toNat < S100.size a)
theorem k0_idx6_inb : ∀ (v42 : IVec S16 32) (k0_hw6 : k0_chk6 v42), ∀ a x, ((![v42] : Fin 1 → IVec S16 32) a x).toNat < S100.size a := fun v42 k0_hw6 => k0_hw6

def k0_chk7 (v45 : IVec S16 32) : Prop :=
  (∀ a x, ((![v45] : Fin 1 → IVec S16 32) a x).toNat < S100.size a)
theorem k0_idx7_inb : ∀ (v45 : IVec S16 32) (k0_hw7 : k0_chk7 v45), ∀ a x, ((![v45] : Fin 1 → IVec S16 32) a x).toNat < S100.size a := fun v45 k0_hw7 => k0_hw7

def k0_chk8 (v48 : IVec S16 32) : Prop :=
  (∀ a x, ((![v48] : Fin 1 → IVec S16 32) a x).toNat < S100.size a)
theorem k0_idx8_inb : ∀ (v48 : IVec S16 32) (k0_hw8 : k0_chk8 v48), ∀ a x, ((![v48] : Fin 1 → IVec S16 32) a x).toNat < S100.size a := fun v48 k0_hw8 => k0_hw8

def k0_chk9 (v51 : IVec S16 32) : Prop :=
  (∀ a x, ((![v51] : Fin 1 → IVec S16 32) a x).toNat < S100.size a)
theorem k0_idx9_inb : ∀ (v51 : IVec S16 32) (k0_hw9 : k0_chk9 v51), ∀ a x, ((![v51] : Fin 1 → IVec S16 32) a x).toNat < S100.size a := fun v51 k0_hw9 => k0_hw9

def k0_chk10 (v54 : IVec S16 32) : Prop :=
  (∀ a x, ((![v54] : Fin 1 → IVec S16 32) a x).toNat < S100.size a)
theorem k0_idx10_inb : ∀ (v54 : IVec S16 32) (k0_hw10 : k0_chk10 v54), ∀ a x, ((![v54] : Fin 1 → IVec S16 32) a x).toNat < S100.size a := fun v54 k0_hw10 => k0_hw10

def k0_chk11 (v57 : IVec S16 32) : Prop :=
  (∀ a x, ((![v57] : Fin 1 → IVec S16 32) a x).toNat < S100.size a)
theorem k0_idx11_inb : ∀ (v57 : IVec S16 32) (k0_hw11 : k0_chk11 v57), ∀ a x, ((![v57] : Fin 1 → IVec S16 32) a x).toNat < S100.size a := fun v57 k0_hw11 => k0_hw11

def k0_chk12 (v60 : IVec S16 32) : Prop :=
  (∀ a x, ((![v60] : Fin 1 → IVec S16 32) a x).toNat < S100.size a)
theorem k0_idx12_inb : ∀ (v60 : IVec S16 32) (k0_hw12 : k0_chk12 v60), ∀ a x, ((![v60] : Fin 1 → IVec S16 32) a x).toNat < S100.size a := fun v60 k0_hw12 => k0_hw12

def k0_chk13 (v63 : IVec S16 32) : Prop :=
  (∀ a x, ((![v63] : Fin 1 → IVec S16 32) a x).toNat < S100.size a)
theorem k0_idx13_inb : ∀ (v63 : IVec S16 32) (k0_hw13 : k0_chk13 v63), ∀ a x, ((![v63] : Fin 1 → IVec S16 32) a x).toNat < S100.size a := fun v63 k0_hw13 => k0_hw13

def k0_chk14 (v66 : IVec S16 32) : Prop :=
  (∀ a x, ((![v66] : Fin 1 → IVec S16 32) a x).toNat < S100.size a)
theorem k0_idx14_inb : ∀ (v66 : IVec S16 32) (k0_hw14 : k0_chk14 v66), ∀ a x, ((![v66] : Fin 1 → IVec S16 32) a x).toNat < S100.size a := fun v66 k0_hw14 => k0_hw14

def k0_chk15 (v69 : IVec S16 32) : Prop :=
  (∀ a x, ((![v69] : Fin 1 → IVec S16 32) a x).toNat < S100.size a)
theorem k0_idx15_inb : ∀ (v69 : IVec S16 32) (k0_hw15 : k0_chk15 v69), ∀ a x, ((![v69] : Fin 1 → IVec S16 32) a x).toNat < S100.size a := fun v69 k0_hw15 => k0_hw15

def k0_chk16 (v72 : IVec S16 32) : Prop :=
  (∀ a x, ((![v72] : Fin 1 → IVec S16 32) a x).toNat < S100.size a)
theorem k0_idx16_inb : ∀ (v72 : IVec S16 32) (k0_hw16 : k0_chk16 v72), ∀ a x, ((![v72] : Fin 1 → IVec S16 32) a x).toNat < S100.size a := fun v72 k0_hw16 => k0_hw16
def k0_off2 (i : grid0.Coords) (c0_i32_26 : BitVec 32) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let v75 : BitVec 32 := Scalar.addi v2 c0_i32_26
  ![v75.toNat]

def k0_chk17 (v84 : IVec S16 32) : Prop :=
  (∀ a x, ((![v84] : Fin 1 → IVec S16 32) a x).toNat < S100.size a)
theorem k0_idx17_inb : ∀ (v84 : IVec S16 32) (k0_hw17 : k0_chk17 v84), ∀ a x, ((![v84] : Fin 1 → IVec S16 32) a x).toNat < S100.size a := fun v84 k0_hw17 => k0_hw17

def k0_chk18 (v87 : IVec S16 32) : Prop :=
  (∀ a x, ((![v87] : Fin 1 → IVec S16 32) a x).toNat < S100.size a)
theorem k0_idx18_inb : ∀ (v87 : IVec S16 32) (k0_hw18 : k0_chk18 v87), ∀ a x, ((![v87] : Fin 1 → IVec S16 32) a x).toNat < S100.size a := fun v87 k0_hw18 => k0_hw18

def k0_chk19 (v90 : IVec S16 32) : Prop :=
  (∀ a x, ((![v90] : Fin 1 → IVec S16 32) a x).toNat < S100.size a)
theorem k0_idx19_inb : ∀ (v90 : IVec S16 32) (k0_hw19 : k0_chk19 v90), ∀ a x, ((![v90] : Fin 1 → IVec S16 32) a x).toNat < S100.size a := fun v90 k0_hw19 => k0_hw19

def k0_chk20 (v93 : IVec S16 32) : Prop :=
  (∀ a x, ((![v93] : Fin 1 → IVec S16 32) a x).toNat < S100.size a)
theorem k0_idx20_inb : ∀ (v93 : IVec S16 32) (k0_hw20 : k0_chk20 v93), ∀ a x, ((![v93] : Fin 1 → IVec S16 32) a x).toNat < S100.size a := fun v93 k0_hw20 => k0_hw20

def k0_chk21 (v96 : IVec S16 32) : Prop :=
  (∀ a x, ((![v96] : Fin 1 → IVec S16 32) a x).toNat < S100.size a)
theorem k0_idx21_inb : ∀ (v96 : IVec S16 32) (k0_hw21 : k0_chk21 v96), ∀ a x, ((![v96] : Fin 1 → IVec S16 32) a x).toNat < S100.size a := fun v96 k0_hw21 => k0_hw21

def k0_chk22 (v99 : IVec S16 32) : Prop :=
  (∀ a x, ((![v99] : Fin 1 → IVec S16 32) a x).toNat < S100.size a)
theorem k0_idx22_inb : ∀ (v99 : IVec S16 32) (k0_hw22 : k0_chk22 v99), ∀ a x, ((![v99] : Fin 1 → IVec S16 32) a x).toNat < S100.size a := fun v99 k0_hw22 => k0_hw22

def k0_chk23 (v102 : IVec S16 32) : Prop :=
  (∀ a x, ((![v102] : Fin 1 → IVec S16 32) a x).toNat < S100.size a)
theorem k0_idx23_inb : ∀ (v102 : IVec S16 32) (k0_hw23 : k0_chk23 v102), ∀ a x, ((![v102] : Fin 1 → IVec S16 32) a x).toNat < S100.size a := fun v102 k0_hw23 => k0_hw23

def k0_chk24 (v105 : IVec S16 32) : Prop :=
  (∀ a x, ((![v105] : Fin 1 → IVec S16 32) a x).toNat < S100.size a)
theorem k0_idx24_inb : ∀ (v105 : IVec S16 32) (k0_hw24 : k0_chk24 v105), ∀ a x, ((![v105] : Fin 1 → IVec S16 32) a x).toNat < S100.size a := fun v105 k0_hw24 => k0_hw24

def k0_chk25 (v108 : IVec S16 32) : Prop :=
  (∀ a x, ((![v108] : Fin 1 → IVec S16 32) a x).toNat < S100.size a)
theorem k0_idx25_inb : ∀ (v108 : IVec S16 32) (k0_hw25 : k0_chk25 v108), ∀ a x, ((![v108] : Fin 1 → IVec S16 32) a x).toNat < S100.size a := fun v108 k0_hw25 => k0_hw25

def k0_chk26 (v111 : IVec S16 32) : Prop :=
  (∀ a x, ((![v111] : Fin 1 → IVec S16 32) a x).toNat < S100.size a)
theorem k0_idx26_inb : ∀ (v111 : IVec S16 32) (k0_hw26 : k0_chk26 v111), ∀ a x, ((![v111] : Fin 1 → IVec S16 32) a x).toNat < S100.size a := fun v111 k0_hw26 => k0_hw26

def k0_chk27 (v114 : IVec S16 32) : Prop :=
  (∀ a x, ((![v114] : Fin 1 → IVec S16 32) a x).toNat < S100.size a)
theorem k0_idx27_inb : ∀ (v114 : IVec S16 32) (k0_hw27 : k0_chk27 v114), ∀ a x, ((![v114] : Fin 1 → IVec S16 32) a x).toNat < S100.size a := fun v114 k0_hw27 => k0_hw27

def k0_chk28 (v117 : IVec S16 32) : Prop :=
  (∀ a x, ((![v117] : Fin 1 → IVec S16 32) a x).toNat < S100.size a)
theorem k0_idx28_inb : ∀ (v117 : IVec S16 32) (k0_hw28 : k0_chk28 v117), ∀ a x, ((![v117] : Fin 1 → IVec S16 32) a x).toNat < S100.size a := fun v117 k0_hw28 => k0_hw28

def k0_chk29 (v120 : IVec S16 32) : Prop :=
  (∀ a x, ((![v120] : Fin 1 → IVec S16 32) a x).toNat < S100.size a)
theorem k0_idx29_inb : ∀ (v120 : IVec S16 32) (k0_hw29 : k0_chk29 v120), ∀ a x, ((![v120] : Fin 1 → IVec S16 32) a x).toNat < S100.size a := fun v120 k0_hw29 => k0_hw29

def k0_chk30 (v123 : IVec S16 32) : Prop :=
  (∀ a x, ((![v123] : Fin 1 → IVec S16 32) a x).toNat < S100.size a)
theorem k0_idx30_inb : ∀ (v123 : IVec S16 32) (k0_hw30 : k0_chk30 v123), ∀ a x, ((![v123] : Fin 1 → IVec S16 32) a x).toNat < S100.size a := fun v123 k0_hw30 => k0_hw30

def k0_chk31 (v126 : IVec S16 32) : Prop :=
  (∀ a x, ((![v126] : Fin 1 → IVec S16 32) a x).toNat < S100.size a)
theorem k0_idx31_inb : ∀ (v126 : IVec S16 32) (k0_hw31 : k0_chk31 v126), ∀ a x, ((![v126] : Fin 1 → IVec S16 32) a x).toNat < S100.size a := fun v126 k0_hw31 => k0_hw31

def k0_chk32 (v129 : IVec S16 32) : Prop :=
  (∀ a x, ((![v129] : Fin 1 → IVec S16 32) a x).toNat < S100.size a)
theorem k0_idx32_inb : ∀ (v129 : IVec S16 32) (k0_hw32 : k0_chk32 v129), ∀ a x, ((![v129] : Fin 1 → IVec S16 32) a x).toNat < S100.size a := fun v129 k0_hw32 => k0_hw32
def k0_off3 (i : grid0.Coords) (c256_i32_47 : BitVec 32) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let v132 : BitVec 32 := Scalar.addi v2 c256_i32_47
  ![v132.toNat]

def k0_chk33 (v141 : IVec S16 32) : Prop :=
  (∀ a x, ((![v141] : Fin 1 → IVec S16 32) a x).toNat < S100.size a)
theorem k0_idx33_inb : ∀ (v141 : IVec S16 32) (k0_hw33 : k0_chk33 v141), ∀ a x, ((![v141] : Fin 1 → IVec S16 32) a x).toNat < S100.size a := fun v141 k0_hw33 => k0_hw33

def k0_chk34 (v144 : IVec S16 32) : Prop :=
  (∀ a x, ((![v144] : Fin 1 → IVec S16 32) a x).toNat < S100.size a)
theorem k0_idx34_inb : ∀ (v144 : IVec S16 32) (k0_hw34 : k0_chk34 v144), ∀ a x, ((![v144] : Fin 1 → IVec S16 32) a x).toNat < S100.size a := fun v144 k0_hw34 => k0_hw34

def k0_chk35 (v147 : IVec S16 32) : Prop :=
  (∀ a x, ((![v147] : Fin 1 → IVec S16 32) a x).toNat < S100.size a)
theorem k0_idx35_inb : ∀ (v147 : IVec S16 32) (k0_hw35 : k0_chk35 v147), ∀ a x, ((![v147] : Fin 1 → IVec S16 32) a x).toNat < S100.size a := fun v147 k0_hw35 => k0_hw35

def k0_chk36 (v150 : IVec S16 32) : Prop :=
  (∀ a x, ((![v150] : Fin 1 → IVec S16 32) a x).toNat < S100.size a)
theorem k0_idx36_inb : ∀ (v150 : IVec S16 32) (k0_hw36 : k0_chk36 v150), ∀ a x, ((![v150] : Fin 1 → IVec S16 32) a x).toNat < S100.size a := fun v150 k0_hw36 => k0_hw36

def k0_chk37 (v153 : IVec S16 32) : Prop :=
  (∀ a x, ((![v153] : Fin 1 → IVec S16 32) a x).toNat < S100.size a)
theorem k0_idx37_inb : ∀ (v153 : IVec S16 32) (k0_hw37 : k0_chk37 v153), ∀ a x, ((![v153] : Fin 1 → IVec S16 32) a x).toNat < S100.size a := fun v153 k0_hw37 => k0_hw37

def k0_chk38 (v156 : IVec S16 32) : Prop :=
  (∀ a x, ((![v156] : Fin 1 → IVec S16 32) a x).toNat < S100.size a)
theorem k0_idx38_inb : ∀ (v156 : IVec S16 32) (k0_hw38 : k0_chk38 v156), ∀ a x, ((![v156] : Fin 1 → IVec S16 32) a x).toNat < S100.size a := fun v156 k0_hw38 => k0_hw38

def k0_chk39 (v159 : IVec S16 32) : Prop :=
  (∀ a x, ((![v159] : Fin 1 → IVec S16 32) a x).toNat < S100.size a)
theorem k0_idx39_inb : ∀ (v159 : IVec S16 32) (k0_hw39 : k0_chk39 v159), ∀ a x, ((![v159] : Fin 1 → IVec S16 32) a x).toNat < S100.size a := fun v159 k0_hw39 => k0_hw39

def k0_chk40 (v162 : IVec S16 32) : Prop :=
  (∀ a x, ((![v162] : Fin 1 → IVec S16 32) a x).toNat < S100.size a)
theorem k0_idx40_inb : ∀ (v162 : IVec S16 32) (k0_hw40 : k0_chk40 v162), ∀ a x, ((![v162] : Fin 1 → IVec S16 32) a x).toNat < S100.size a := fun v162 k0_hw40 => k0_hw40

def k0_chk41 (v165 : IVec S16 32) : Prop :=
  (∀ a x, ((![v165] : Fin 1 → IVec S16 32) a x).toNat < S100.size a)
theorem k0_idx41_inb : ∀ (v165 : IVec S16 32) (k0_hw41 : k0_chk41 v165), ∀ a x, ((![v165] : Fin 1 → IVec S16 32) a x).toNat < S100.size a := fun v165 k0_hw41 => k0_hw41

def k0_chk42 (v168 : IVec S16 32) : Prop :=
  (∀ a x, ((![v168] : Fin 1 → IVec S16 32) a x).toNat < S100.size a)
theorem k0_idx42_inb : ∀ (v168 : IVec S16 32) (k0_hw42 : k0_chk42 v168), ∀ a x, ((![v168] : Fin 1 → IVec S16 32) a x).toNat < S100.size a := fun v168 k0_hw42 => k0_hw42

def k0_chk43 (v171 : IVec S16 32) : Prop :=
  (∀ a x, ((![v171] : Fin 1 → IVec S16 32) a x).toNat < S100.size a)
theorem k0_idx43_inb : ∀ (v171 : IVec S16 32) (k0_hw43 : k0_chk43 v171), ∀ a x, ((![v171] : Fin 1 → IVec S16 32) a x).toNat < S100.size a := fun v171 k0_hw43 => k0_hw43

def k0_chk44 (v174 : IVec S16 32) : Prop :=
  (∀ a x, ((![v174] : Fin 1 → IVec S16 32) a x).toNat < S100.size a)
theorem k0_idx44_inb : ∀ (v174 : IVec S16 32) (k0_hw44 : k0_chk44 v174), ∀ a x, ((![v174] : Fin 1 → IVec S16 32) a x).toNat < S100.size a := fun v174 k0_hw44 => k0_hw44

def k0_chk45 (v177 : IVec S16 32) : Prop :=
  (∀ a x, ((![v177] : Fin 1 → IVec S16 32) a x).toNat < S100.size a)
theorem k0_idx45_inb : ∀ (v177 : IVec S16 32) (k0_hw45 : k0_chk45 v177), ∀ a x, ((![v177] : Fin 1 → IVec S16 32) a x).toNat < S100.size a := fun v177 k0_hw45 => k0_hw45

def k0_chk46 (v180 : IVec S16 32) : Prop :=
  (∀ a x, ((![v180] : Fin 1 → IVec S16 32) a x).toNat < S100.size a)
theorem k0_idx46_inb : ∀ (v180 : IVec S16 32) (k0_hw46 : k0_chk46 v180), ∀ a x, ((![v180] : Fin 1 → IVec S16 32) a x).toNat < S100.size a := fun v180 k0_hw46 => k0_hw46

def k0_chk47 (v183 : IVec S16 32) : Prop :=
  (∀ a x, ((![v183] : Fin 1 → IVec S16 32) a x).toNat < S100.size a)
theorem k0_idx47_inb : ∀ (v183 : IVec S16 32) (k0_hw47 : k0_chk47 v183), ∀ a x, ((![v183] : Fin 1 → IVec S16 32) a x).toNat < S100.size a := fun v183 k0_hw47 => k0_hw47

def k0_chk48 (v186 : IVec S16 32) : Prop :=
  (∀ a x, ((![v186] : Fin 1 → IVec S16 32) a x).toNat < S100.size a)
theorem k0_idx48_inb : ∀ (v186 : IVec S16 32) (k0_hw48 : k0_chk48 v186), ∀ a x, ((![v186] : Fin 1 → IVec S16 32) a x).toNat < S100.size a := fun v186 k0_hw48 => k0_hw48
def k0_off4 (i : grid0.Coords) (c512_i32_68 : BitVec 32) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let v189 : BitVec 32 := Scalar.addi v2 c512_i32_68
  ![v189.toNat]

def k0_chk49 (v198 : IVec S16 32) : Prop :=
  (∀ a x, ((![v198] : Fin 1 → IVec S16 32) a x).toNat < S100.size a)
theorem k0_idx49_inb : ∀ (v198 : IVec S16 32) (k0_hw49 : k0_chk49 v198), ∀ a x, ((![v198] : Fin 1 → IVec S16 32) a x).toNat < S100.size a := fun v198 k0_hw49 => k0_hw49

def k0_chk50 (v201 : IVec S16 32) : Prop :=
  (∀ a x, ((![v201] : Fin 1 → IVec S16 32) a x).toNat < S100.size a)
theorem k0_idx50_inb : ∀ (v201 : IVec S16 32) (k0_hw50 : k0_chk50 v201), ∀ a x, ((![v201] : Fin 1 → IVec S16 32) a x).toNat < S100.size a := fun v201 k0_hw50 => k0_hw50

def k0_chk51 (v204 : IVec S16 32) : Prop :=
  (∀ a x, ((![v204] : Fin 1 → IVec S16 32) a x).toNat < S100.size a)
theorem k0_idx51_inb : ∀ (v204 : IVec S16 32) (k0_hw51 : k0_chk51 v204), ∀ a x, ((![v204] : Fin 1 → IVec S16 32) a x).toNat < S100.size a := fun v204 k0_hw51 => k0_hw51

def k0_chk52 (v207 : IVec S16 32) : Prop :=
  (∀ a x, ((![v207] : Fin 1 → IVec S16 32) a x).toNat < S100.size a)
theorem k0_idx52_inb : ∀ (v207 : IVec S16 32) (k0_hw52 : k0_chk52 v207), ∀ a x, ((![v207] : Fin 1 → IVec S16 32) a x).toNat < S100.size a := fun v207 k0_hw52 => k0_hw52

def k0_chk53 (v210 : IVec S16 32) : Prop :=
  (∀ a x, ((![v210] : Fin 1 → IVec S16 32) a x).toNat < S100.size a)
theorem k0_idx53_inb : ∀ (v210 : IVec S16 32) (k0_hw53 : k0_chk53 v210), ∀ a x, ((![v210] : Fin 1 → IVec S16 32) a x).toNat < S100.size a := fun v210 k0_hw53 => k0_hw53

def k0_chk54 (v213 : IVec S16 32) : Prop :=
  (∀ a x, ((![v213] : Fin 1 → IVec S16 32) a x).toNat < S100.size a)
theorem k0_idx54_inb : ∀ (v213 : IVec S16 32) (k0_hw54 : k0_chk54 v213), ∀ a x, ((![v213] : Fin 1 → IVec S16 32) a x).toNat < S100.size a := fun v213 k0_hw54 => k0_hw54

def k0_chk55 (v216 : IVec S16 32) : Prop :=
  (∀ a x, ((![v216] : Fin 1 → IVec S16 32) a x).toNat < S100.size a)
theorem k0_idx55_inb : ∀ (v216 : IVec S16 32) (k0_hw55 : k0_chk55 v216), ∀ a x, ((![v216] : Fin 1 → IVec S16 32) a x).toNat < S100.size a := fun v216 k0_hw55 => k0_hw55

def k0_chk56 (v219 : IVec S16 32) : Prop :=
  (∀ a x, ((![v219] : Fin 1 → IVec S16 32) a x).toNat < S100.size a)
theorem k0_idx56_inb : ∀ (v219 : IVec S16 32) (k0_hw56 : k0_chk56 v219), ∀ a x, ((![v219] : Fin 1 → IVec S16 32) a x).toNat < S100.size a := fun v219 k0_hw56 => k0_hw56

def k0_chk57 (v222 : IVec S16 32) : Prop :=
  (∀ a x, ((![v222] : Fin 1 → IVec S16 32) a x).toNat < S100.size a)
theorem k0_idx57_inb : ∀ (v222 : IVec S16 32) (k0_hw57 : k0_chk57 v222), ∀ a x, ((![v222] : Fin 1 → IVec S16 32) a x).toNat < S100.size a := fun v222 k0_hw57 => k0_hw57

def k0_chk58 (v225 : IVec S16 32) : Prop :=
  (∀ a x, ((![v225] : Fin 1 → IVec S16 32) a x).toNat < S100.size a)
theorem k0_idx58_inb : ∀ (v225 : IVec S16 32) (k0_hw58 : k0_chk58 v225), ∀ a x, ((![v225] : Fin 1 → IVec S16 32) a x).toNat < S100.size a := fun v225 k0_hw58 => k0_hw58

def k0_chk59 (v228 : IVec S16 32) : Prop :=
  (∀ a x, ((![v228] : Fin 1 → IVec S16 32) a x).toNat < S100.size a)
theorem k0_idx59_inb : ∀ (v228 : IVec S16 32) (k0_hw59 : k0_chk59 v228), ∀ a x, ((![v228] : Fin 1 → IVec S16 32) a x).toNat < S100.size a := fun v228 k0_hw59 => k0_hw59

def k0_chk60 (v231 : IVec S16 32) : Prop :=
  (∀ a x, ((![v231] : Fin 1 → IVec S16 32) a x).toNat < S100.size a)
theorem k0_idx60_inb : ∀ (v231 : IVec S16 32) (k0_hw60 : k0_chk60 v231), ∀ a x, ((![v231] : Fin 1 → IVec S16 32) a x).toNat < S100.size a := fun v231 k0_hw60 => k0_hw60

def k0_chk61 (v234 : IVec S16 32) : Prop :=
  (∀ a x, ((![v234] : Fin 1 → IVec S16 32) a x).toNat < S100.size a)
theorem k0_idx61_inb : ∀ (v234 : IVec S16 32) (k0_hw61 : k0_chk61 v234), ∀ a x, ((![v234] : Fin 1 → IVec S16 32) a x).toNat < S100.size a := fun v234 k0_hw61 => k0_hw61

def k0_chk62 (v237 : IVec S16 32) : Prop :=
  (∀ a x, ((![v237] : Fin 1 → IVec S16 32) a x).toNat < S100.size a)
theorem k0_idx62_inb : ∀ (v237 : IVec S16 32) (k0_hw62 : k0_chk62 v237), ∀ a x, ((![v237] : Fin 1 → IVec S16 32) a x).toNat < S100.size a := fun v237 k0_hw62 => k0_hw62

def k0_chk63 (v240 : IVec S16 32) : Prop :=
  (∀ a x, ((![v240] : Fin 1 → IVec S16 32) a x).toNat < S100.size a)
theorem k0_idx63_inb : ∀ (v240 : IVec S16 32) (k0_hw63 : k0_chk63 v240), ∀ a x, ((![v240] : Fin 1 → IVec S16 32) a x).toNat < S100.size a := fun v240 k0_hw63 => k0_hw63

def k0_chk64 (v243 : IVec S16 32) : Prop :=
  (∀ a x, ((![v243] : Fin 1 → IVec S16 32) a x).toNat < S100.size a)
theorem k0_idx64_inb : ∀ (v243 : IVec S16 32) (k0_hw64 : k0_chk64 v243), ∀ a x, ((![v243] : Fin 1 → IVec S16 32) a x).toNat < S100.size a := fun v243 k0_hw64 => k0_hw64
def k0_off5 (i : grid0.Coords) (c768_i32_89 : BitVec 32) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let v246 : BitVec 32 := Scalar.addi v2 c768_i32_89
  ![v246.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100x1 : Shape := ⟨2, ![100, 1]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x1x1x1 : Shape := ⟨4, ![16384, 1, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384, .i32⟩
  | .hbm, ⟨1, _⟩ => ⟨S100x1, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x1, .f32⟩
  | .hbm, ⟨21, _⟩ => ⟨S16384x1, .i1⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1x1x1, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Body.lean ====
/-
  The tile's program read again: the copies and waits as they come, the sixty-four groups of sixteen
  lanes as four runs of one repeated group.
-/
module

public import proofs.«01_k».proof.Proof.Gen.KernelIdeal
public import proofs.«01_k».proof.Proof.Gen.KernelIdeal.Skeleton
public import Idealize.ShloMosaic.Lib.SparseCore.Ops

@[expose] public section

noncomputable section

namespace Cert.KernelIdeal.Proof

open Idealize.ShloMosaic Idealize.SL.Sem
open Cert.KernelIdeal.Gen

variable {F : FTy → Type} [FloatOps F]

/-- Group `j` of sixteen lanes lies inside the 1024-word rows. -/
theorem lanes_inb (j : ℕ) (h : j < 64) : ∀ a, (![16 * j] : Fin 1 → Nat) a + S16.size a ≤ S1024.size a := by
  intro a; fin_cases a; show 16 * j + 16 ≤ 1024; omega

/-- One group: sixteen indices loaded, checked, looked up in the table and stored. -/
def group {p : Proc τ} (arg5 : Memref sig p.kind .vmem S1024 .i32) (arg6 : Memref sig p.kind .vmem S100 .f32)
    (arg7 : Memref sig p.kind .vmem S1024 .f32) (j : ℕ) (h : j < 64) : Prog (TpuEff nD τ sig (Elt F) Λ₀ p) PUnit := do
  let v : Vec F S16 .i32 ← Prog.lift (.load arg5 (Rect.unit (s := S1024) ![16 * j] S16.size (lanes_inb j h)).toLoadRect (View.loadsAt_vmem h_S16))
  have hw : k0_chk1 v := (← Prog.lift (TpuEff.assume (k0_chk1 v) (k0_chk1.dec v))).down
  let w : Vec F S16 .f32 ← SparseCore.vectorLoadIdx arg6 ![v] (k0_idx1_inb v hw) (View.loads_vmem h_S100)
  let _ : Vec F S16 .f32 ← Prog.lift (.load arg7 (Rect.unit (s := S1024) ![16 * j] S16.size (lanes_inb j h)).toLoadRect (View.loadsAt_vmem h_S16))
  Prog.lift (.store arg7 (Rect.unit (s := S1024) ![16 * j] S16.size (lanes_inb j h)) w Finset.univ (View.stores_vmem_bits_univ h_S16 rfl) (.inl rfl))

/-- The `n` groups from group `j` on, in order. -/
def groups {p : Proc τ} (arg5 : Memref sig p.kind .vmem S1024 .i32) (arg6 : Memref sig p.kind .vmem S100 .f32)
    (arg7 : Memref sig p.kind .vmem S1024 .f32) : (n j : ℕ) → j + n ≤ 64 → Prog (TpuEff nD τ sig (Elt F) Λ₀ p) PUnit
  | 0, _, _ => pure ⟨⟩
  | n + 1, j, h => do
    group arg5 arg6 arg7 j (by omega)
    groups arg5 arg6 arg7 n (j + 1) (by omega)

/-- 256 words of a whole input or output row in HBM, from offset `o`. -/
def win {e : EltTy} (x : Memref sig .scVector .hbm S16384 e) (o : Fin 1 → ℕ) (h : ∀ a, o a + S256.size a ≤ S16384.size a) :
    Memref sig .scVector .hbm S256 e := x.slice (Rect.unit (s := S16384) o S256.size h) (fun _ => rfl)

/-- 256 words of a tile's own row, from offset `o`. -/
def own {e : EltTy} (x : Memref sig .scVector .vmem S1024 e) (o : Fin 1 → ℕ) (h : ∀ a, o a + S256.size a ≤ S1024.size a) :
    Memref sig .scVector .vmem S256 e := x.slice (Rect.unit (s := S1024) o S256.size h) (fun _ => rfl)

theorem win_congr {e : EltTy} (x : Memref sig .scVector .hbm S16384 e) {o o' : Fin 1 → ℕ} (eq : o = o')
    (h : ∀ a, o a + S256.size a ≤ S16384.size a) (h' : ∀ a, o' a + S256.size a ≤ S16384.size a) : win x o h = win x o' h' := by
  subst eq; rfl

set_option maxRecDepth 65536 in
set_option maxHeartbeats 4000000 in
/-- The printed function is this sequence, by definitional unfolding. -/
theorem kernel_eq (i : grid0.Coords) (arg2 : Memref sig .scVector .hbm S16384 .i32) (harg2 : arg2.IsWhole)
    (arg3 : Memref sig .scVector .hbm S100 .f32) (harg3 : arg3.IsWhole) (arg4 : Memref sig .scVector .hbm S16384 .f32) (harg4 : arg4.IsWhole)
    (arg5 : Memref sig .scVector .vmem S1024 .i32) (harg5 : arg5.IsWhole) (arg6 : Memref sig .scVector .vmem S100 .f32) (harg6 : arg6.IsWhole)
    (arg7 : Memref sig .scVector .vmem S1024 .f32) (harg7 : arg7.IsWhole)
    (arg8 : DmaSems sig S_) (arg9 : DmaSems sig S_) (arg10 : DmaSems sig S_) (arg11 : DmaSems sig S_) (arg12 : DmaSems sig S_) (arg13 : DmaSems sig S_) :
    cc0__gather_kernel (F := F) i arg2 harg2 arg3 harg3 arg4 harg4 arg5 harg5 arg6 harg6 arg7 harg7 arg8 arg9 arg10 arg11 arg12 arg13 = (do
      Prog.lift (.enqueueDma arg3 (.here arg6) (.dma arg8.sem) harg3.wordExact harg6.wordExact ⟨Or.inl rfl, trivial⟩)
      Prog.lift (.enqueueDma (win arg2 (k0_off1 i 0#32) (k0_off1_inb i 0)) (.here (own arg5 ![0] inb_S1024_S256_0)) (.dma arg9.sem) (View.wordExact_bits rfl) (View.wordExact_bits rfl) ⟨Or.inl rfl, trivial⟩)
      Prog.lift (.enqueueDma (win arg2 (k0_off1 i 256#32) (k0_off1_inb i 1)) (.here (own arg5 ![256] inb_S1024_S256_256)) (.dma arg10.sem) (View.wordExact_bits rfl) (View.wordExact_bits rfl) ⟨Or.inl rfl, trivial⟩)
      Prog.lift (.enqueueDma (win arg2 (k0_off1 i 512#32) (k0_off1_inb i 2)) (.here (own arg5 ![512] inb_S1024_S256_512)) (.dma arg11.sem) (View.wordExact_bits rfl) (View.wordExact_bits rfl) ⟨Or.inl rfl, trivial⟩)
      Prog.lift (.enqueueDma (win arg2 (k0_off1 i 768#32) (k0_off1_inb i 3)) (.here (own arg5 ![768] inb_S1024_S256_768)) (.dma arg12.sem) (View.wordExact_bits rfl) (View.wordExact_bits rfl) ⟨Or.inl rfl, trivial⟩)
      Prog.lift (.waitDma2 arg8.sem arg3 arg6 harg3.wordExact harg6.wordExact)
      Prog.lift (.waitDma2 arg9.sem (win arg2 (k0_off1 i 0#32) (k0_off1_inb i 0)) (own arg5 ![0] inb_S1024_S256_0) (View.wordExact_bits rfl) (View.wordExact_bits rfl))
      groups (p := (.scVector ((i 0).castLE hcore0) ((i 1).castLE hsub0))) arg5 arg6 arg7 16 0 (by omega)
      Prog.lift (.enqueueDma (own arg7 ![0] inb_S1024_S256_0) (.here (win arg4 (k0_off2 i 0#32) (k0_off2_inb i 0))) (.dma arg13.sem) (View.wordExact_bits rfl) (View.wordExact_bits rfl) ⟨Or.inl rfl, trivial⟩)
      Prog.lift (.waitDma2 arg10.sem (win arg2 (k0_off2 i 256#32) (k0_off2_inb i 1)) (own arg5 ![256] inb_S1024_S256_256) (View.wordExact_bits rfl) (View.wordExact_bits rfl))
      groups (p := (.scVector ((i 0).castLE hcore0) ((i 1).castLE hsub0))) arg5 arg6 arg7 16 16 (by omega)
      Prog.lift (.enqueueDma (own arg7 ![256] inb_S1024_S256_256) (.here (win arg4 (k0_off3 i 256#32) (k0_off3_inb i 0))) (.dma arg13.sem) (View.wordExact_bits rfl) (View.wordExact_bits rfl) ⟨Or.inl rfl, trivial⟩)
      Prog.lift (.waitDma2 arg11.sem (win arg2 (k0_off3 i 512#32) (k0_off3_inb i 1)) (own arg5 ![512] inb_S1024_S256_512) (View.wordExact_bits rfl) (View.wordExact_bits rfl))
      groups (p := (.scVector ((i 0).castLE hcore0) ((i 1).castLE hsub0))) arg5 arg6 arg7 16 32 (by omega)
      Prog.lift (.enqueueDma (own arg7 ![512] inb_S1024_S256_512) (.here (win arg4 (k0_off4 i 512#32) (k0_off4_inb i 0))) (.dma arg13.sem) (View.wordExact_bits rfl) (View.wordExact_bits rfl) ⟨Or.inl rfl, trivial⟩)
      Prog.lift (.waitDma2 arg12.sem (win arg2 (k0_off4 i 768#32) (k0_off4_inb i 1)) (own arg5 ![768] inb_S1024_S256_768) (View.wordExact_bits rfl) (View.wordExact_bits rfl))
      groups (p := (.scVector ((i 0).castLE hcore0) ((i 1).castLE hsub0))) arg5 arg6 arg7 16 48 (by omega)
      Prog.lift (.enqueueDma (own arg7 ![768] inb_S1024_S256_768) (.here (win arg4 (k0_off5 i 768#32) (k0_off5_inb i 3))) (.dma arg13.sem) (View.wordExact_bits rfl) (View.wordExact_bits rfl) ⟨Or.inl rfl, trivial⟩)
      Prog.lift (.waitDma2 arg13.sem (own arg7 ![0] inb_S1024_S256_0) (win arg4 (k0_off5 i 0#32) (k0_off5_inb i 0)) (View.wordExact_bits rfl) (View.wordExact_bits rfl))
      Prog.lift (.waitDma2 arg13.sem (own arg7 ![256] inb_S1024_S256_256) (win arg4 (k0_off5 i 256#32) (k0_off5_inb i 1)) (View.wordExact_bits rfl) (View.wordExact_bits rfl))
      Prog.lift (.waitDma2 arg13.sem (own arg7 ![512] inb_S1024_S256_512) (win arg4 (k0_off5 i 512#32) (k0_off5_inb i 2)) (View.wordExact_bits rfl) (View.wordExact_bits rfl))
      Prog.lift (.waitDma2 arg13.sem (own arg7 ![768] inb_S1024_S256_768) (win arg4 (k0_off5 i 768#32) (k0_off5_inb i 3)) (View.wordExact_bits rfl) (View.wordExact_bits rfl))
      pure ⟨⟩) := rfl

theorem chunk_inb (c : Fin 4) : ∀ a, (![256 * c.val] : Fin 1 → ℕ) a + S256.size a ≤ S1024.size a := by
  intro a; fin_cases a; show 256 * c.val + 256 ≤ 1024; omega

theorem part_inb (t : Fin 16) (c : Fin 4) : ∀ a, (![1024 * t.val + 256 * c.val] : Fin 1 → ℕ) a + S256.size a ≤ S16384.size a := by
  intro a; fin_cases a; show 1024 * t.val + 256 * c.val + 256 ≤ 16384; omega

/-- Chunk `c` of tile `t`'s part of a whole row in HBM. -/
abbrev winC {e : EltTy} (x : Memref sig .scVector .hbm S16384 e) (t : Fin 16) (c : Fin 4) : Memref sig .scVector .hbm S256 e :=
  x.slice (Rect.unit (s := S16384) ![1024 * t.val + 256 * c.val] S256.size (part_inb t c)) (fun _ => rfl)

/-- Chunk `c` of a tile's own row. -/
abbrev ownC {e : EltTy} (x : Memref sig .scVector .vmem S1024 e) (c : Fin 4) : Memref sig .scVector .vmem S256 e :=
  x.slice (Rect.unit (s := S1024) ![256 * c.val] S256.size (chunk_inb c)) (fun _ => rfl)

/-- The tile of a grid point. -/
abbrev tile (i : grid0.Coords) : Fin 16 := i 1

theorem win_eq {e : EltTy} (x : Memref sig .scVector .hbm S16384 e) (i : grid0.Coords) (c : Fin 4) {o : Fin 1 → ℕ}
    (h : ∀ a, o a + S256.size a ≤ S16384.size a) (eq : o = ![1024 * (i 1).val + 1024 * (i 0).val + 256 * c.val]) :
    win x o h = winC x (tile i) c := by
  refine win_congr x (eq.trans ?_) h (part_inb (tile i) c)
  have h0 : (i 0).val = 0 := Nat.lt_one_iff.mp (i 0).isLt
  rw [h0]; rfl

/-- The tile's program with the chunks numbered. -/
theorem kernel_canon (i : grid0.Coords) (arg2 : Memref sig .scVector .hbm S16384 .i32) (harg2 : arg2.IsWhole)
    (arg3 : Memref sig .scVector .hbm S100 .f32) (harg3 : arg3.IsWhole) (arg4 : Memref sig .scVector .hbm S16384 .f32) (harg4 : arg4.IsWhole)
    (arg5 : Memref sig .scVector .vmem S1024 .i32) (harg5 : arg5.IsWhole) (arg6 : Memref sig .scVector .vmem S100 .f32) (harg6 : arg6.IsWhole)
    (arg7 : Memref sig .scVector .vmem S1024 .f32) (harg7 : arg7.IsWhole)
    (arg8 : DmaSems sig S_) (arg9 : DmaSems sig S_) (arg10 : DmaSems sig S_) (arg11 : DmaSems sig S_) (arg12 : DmaSems sig S_) (arg13 : DmaSems sig S_) :
    cc0__gather_kernel (F := F) i arg2 harg2 arg3 harg3 arg4 harg4 arg5 harg5 arg6 harg6 arg7 harg7 arg8 arg9 arg10 arg11 arg12 arg13 = (do
      Prog.lift (.enqueueDma arg3 (.here arg6) (.dma arg8.sem) harg3.wordExact harg6.wordExact ⟨Or.inl rfl, trivial⟩)
      Prog.lift (.enqueueDma (winC arg2 (tile i) 0) (.here (ownC arg5 0)) (.dma arg9.sem) (View.wordExact_bits rfl) (View.wordExact_bits rfl) ⟨Or.inl rfl, trivial⟩)
      Prog.lift (.enqueueDma (winC arg2 (tile i) 1) (.here (ownC arg5 1)) (.dma arg10.sem) (View.wordExact_bits rfl) (View.wordExact_bits rfl) ⟨Or.inl rfl, trivial⟩)
      Prog.lift (.enqueueDma (winC arg2 (tile i) 2) (.here (ownC arg5 2)) (.dma arg11.sem) (View.wordExact_bits rfl) (View.wordExact_bits rfl) ⟨Or.inl rfl, trivial⟩)
      Prog.lift (.enqueueDma (winC arg2 (tile i) 3) (.here (ownC arg5 3)) (.dma arg12.sem) (View.wordExact_bits rfl) (View.wordExact_bits rfl) ⟨Or.inl rfl, trivial⟩)
      Prog.lift (.waitDma2 arg8.sem arg3 arg6 harg3.wordExact harg6.wordExact)
      Prog.lift (.waitDma2 arg9.sem (winC arg2 (tile i) 0) (ownC arg5 0) (View.wordExact_bits rfl) (View.wordExact_bits rfl))
      groups (p := (.scVector ((i 0).castLE hcore0) ((i 1).castLE hsub0))) arg5 arg6 arg7 16 0 (by omega)
      Prog.lift (.enqueueDma (ownC arg7 0) (.here (winC arg4 (tile i) 0)) (.dma arg13.sem) (View.wordExact_bits rfl) (View.wordExact_bits rfl) ⟨Or.inl rfl, trivial⟩)
      Prog.lift (.waitDma2 arg10.sem (winC arg2 (tile i) 1) (ownC arg5 1) (View.wordExact_bits rfl) (View.wordExact_bits rfl))
      groups (p := (.scVector ((i 0).castLE hcore0) ((i 1).castLE hsub0))) arg5 arg6 arg7 16 16 (by omega)
      Prog.lift (.enqueueDma (ownC arg7 1) (.here (winC arg4 (tile i) 1)) (.dma arg13.sem) (View.wordExact_bits rfl) (View.wordExact_bits rfl) ⟨Or.inl rfl, trivial⟩)
      Prog.lift (.waitDma2 arg11.sem (winC arg2 (tile i) 2) (ownC arg5 2) (View.wordExact_bits rfl) (View.wordExact_bits rfl))
      groups (p := (.scVector ((i 0).castLE hcore0) ((i 1).castLE hsub0))) arg5 arg6 arg7 16 32 (by omega)
      Prog.lift (.enqueueDma (ownC arg7 2) (.here (winC arg4 (tile i) 2)) (.dma arg13.sem) (View.wordExact_bits rfl) (View.wordExact_bits rfl) ⟨Or.inl rfl, trivial⟩)
      Prog.lift (.waitDma2 arg12.sem (winC arg2 (tile i) 3) (ownC arg5 3) (View.wordExact_bits rfl) (View.wordExact_bits rfl))
      groups (p := (.scVector ((i 0).castLE hcore0) ((i 1).castLE hsub0))) arg5 arg6 arg7 16 48 (by omega)
      Prog.lift (.enqueueDma (ownC arg7 3) (.here (winC arg4 (tile i) 3)) (.dma arg13.sem) (View.wordExact_bits rfl) (View.wordExact_bits rfl) ⟨Or.inl rfl, trivial⟩)
      Prog.lift (.waitDma2 arg13.sem (ownC arg7 0) (winC arg4 (tile i) 0) (View.wordExact_bits rfl) (View.wordExact_bits rfl))
      Prog.lift (.waitDma2 arg13.sem (ownC arg7 1) (winC arg4 (tile i) 1) (View.wordExact_bits rfl) (View.wordExact_bits rfl))
      Prog.lift (.waitDma2 arg13.sem (ownC arg7 2) (winC arg4 (tile i) 2) (View.wordExact_bits rfl) (View.wordExact_bits rfl))
      Prog.lift (.waitDma2 arg13.sem (ownC arg7 3) (winC arg4 (tile i) 3) (View.wordExact_bits rfl) (View.wordExact_bits rfl))
      pure ⟨⟩) := by
  rw [kernel_eq]
  simp only [win_eq (o := k0_off1 i 0#32) _ i 0 _ (k0_off1_eq i 0), win_eq (o := k0_off1 i 256#32) _ i 1 _ (k0_off1_eq i 1), win_eq (o := k0_off1 i 512#32) _ i 2 _ (k0_off1_eq i 2), win_eq (o := k0_off1 i 768#32) _ i 3 _ (k0_off1_eq i 3),
    win_eq (o := k0_off2 i 0#32) _ i 0 _ (k0_off2_eq i 0), win_eq (o := k0_off2 i 256#32) _ i 1 _ (k0_off2_eq i 1), win_eq (o := k0_off3 i 256#32) _ i 1 _ (k0_off3_eq i 0), win_eq (o := k0_off3 i 512#32) _ i 2 _ (k0_off3_eq i 1),
    win_eq (o := k0_off4 i 512#32) _ i 2 _ (k0_off4_eq i 0), win_eq (o := k0_off4 i 768#32) _ i 3 _ (k0_off4_eq i 1), win_eq (o := k0_off5 i 0#32) _ i 0 _ (k0_off5_eq i 0), win_eq (o := k0_off5 i 256#32) _ i 1 _ (k0_off5_eq i 1),
    win_eq (o := k0_off5 i 512#32) _ i 2 _ (k0_off5_eq i 2), win_eq (o := k0_off5 i 768#32) _ i 3 _ (k0_off5_eq i 3)]
  rfl

end Cert.KernelIdeal.Proof
-- ==== Proof.Setup.lean ====
/-
  The launch as the proof sees it: where the arrays lie, the value every word of the result ends at, how the
  arrays are cut among the sixteen tiles and their four chunks, and what each handshake carries.
-/
module

public import proofs.«01_k».proof.Defs
public import proofs.«01_k».proof.Proof.Body
public import Idealize.ShloMosaic.Lib.SparseCore.Quiescent
public import Idealize.ShloMosaic.Lib.ShareLeaves
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.KernelIdeal.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, and the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The indices, the table as given, the table flattened, the kernel's output, the result. -/
abbrev iLoc (d : Dev nD) : Loc nD τ sig := (SparseCore.T d).loc main_arg0
abbrev xLoc (d : Dev nD) : Loc nD τ sig := (SparseCore.T d).loc main_arg1
abbrev vLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

/-- The memrefs a tile is given: indices, table and output in HBM; its own index, table and output rows. -/
abbrev iM : Memref sig .scVector .hbm S16384 .i32 := Memref.whole main_arg0_scv
abbrev vM : Memref sig .scVector .hbm S100 .f32 := Memref.whole main_v0_scv
abbrev oM : Memref sig .scVector .hbm S16384 .f32 := Memref.whole main_v1_scv
abbrev sI : Memref sig .scVector .vmem S1024 .i32 := Memref.whole cc0_scratch0
abbrev sV : Memref sig .scVector .vmem S100 .f32 := Memref.whole cc0_scratch1
abbrev sO : Memref sig .scVector .vmem S1024 .f32 := Memref.whole cc0_scratch2

/-! ## The values -/

/-- The table entry a word points at (the word itself when it is below 100). -/
def look (tab : S100.Idx → Elt F .f32) (w : BitVec 32) : Elt F .f32 :=
  tab (Shape.ofLane (d := ![100]) ⟨w.toNat % 100, Nat.mod_lt _ (by decide)⟩)

/-- The flattened table. -/
def tab (d : Dev nD) : Buf (Elt F) (vLoc d) := fun i => shapeCast S100 (m (xLoc d)) shapeCasts_S100x1_S100 i

/-- Every word of the kernel's output: the table entry its index points at. -/
def out (d : Dev nD) : Buf (Elt F) (oLoc d) := fun b => look (tab m d) (m (iLoc d) b)

/-- The result, the output seen at four dimensions. -/
def res (d : Dev nD) : Buf (Elt F) (rLoc d) := fun i => shapeCast S16384x1x1x1 (out m d) shapeCasts_S16384_S16384x1x1x1 i

/-- Word `x` of tile `t`'s part of a row of 16384. -/
def at16 (t : Fin 16) (x : S1024.Idx) : S16384.Idx := Shape.ofLane (d := ![16384]) ⟨1024 * t.val + (x 0).val, by
  have h : (x 0).val < 1024 := (x 0).isLt
  show 1024 * t.val + (x 0).val < 16384
  omega⟩

/-- A tile's indices, and what it stores for them. -/
def ownI (d : Dev nD) (t : Fin 16) : S1024.Idx → Elt F .i32 := fun x => m (iLoc d) (at16 t x)
def ownO (d : Dev nD) (t : Fin 16) : S1024.Idx → Elt F .f32 := fun x => look (tab m d) (ownI m d t x)

/-- What the proof asks of the launch memory: every index points into the table. -/
def PreOK : Prop := ∀ (d : Dev nD) (j : S16384.Idx), (m (iLoc d) j).toNat < 100

/-! ## The cuts -/

theorem rowOf_inb (t : Fin 16) : ∀ a, (![1024 * t.val] : Fin 1 → ℕ) a + S1024.size a ≤ S16384.size a := by
  intro a; fin_cases a; show 1024 * t.val + 1024 ≤ 16384; omega

/-- Tile `t`'s part of a whole row, and chunk `c` of it; chunk `c` of a tile's own row. -/
abbrev rowSet (t : Fin 16) : Finset S16384.Idx := (Rect.unit (s := S16384) ![1024 * t.val] S1024.size (rowOf_inb t)).set
abbrev partSet (t : Fin 16) (c : Fin 4) : Finset S16384.Idx := (Rect.unit (s := S16384) ![1024 * t.val + 256 * c.val] S256.size (part_inb t c)).set
abbrev chunkSet (c : Fin 4) : Finset S1024.Idx := (Rect.unit (s := S1024) ![256 * c.val] S256.size (chunk_inb c)).set

theorem mem_rowSet (t : Fin 16) (x : S16384.Idx) : x ∈ rowSet t ↔ 1024 * t.val ≤ (x 0).val ∧ (x 0).val < 1024 * t.val + 1024 := by
  rw [Rect.mem_set_unit]; exact ⟨fun h => h 0, fun h a => by fin_cases a; exact h⟩
theorem mem_partSet (t : Fin 16) (c : Fin 4) (x : S16384.Idx) :
    x ∈ partSet t c ↔ 1024 * t.val + 256 * c.val ≤ (x 0).val ∧ (x 0).val < 1024 * t.val + 256 * c.val + 256 := by
  rw [Rect.mem_set_unit]; exact ⟨fun h => h 0, fun h a => by fin_cases a; exact h⟩
theorem mem_chunkSet (c : Fin 4) (x : S1024.Idx) : x ∈ chunkSet c ↔ 256 * c.val ≤ (x 0).val ∧ (x 0).val < 256 * c.val + 256 := by
  rw [Rect.mem_set_unit]; exact ⟨fun h => h 0, fun h a => by fin_cases a; exact h⟩

theorem rows_disjoint : ∀ t ∈ (Finset.univ : Finset (Fin 16)), ∀ u ∈ (Finset.univ : Finset (Fin 16)), t ≠ u → Disjoint (rowSet t) (rowSet u) := by
  intro t _ u _ h
  rw [Finset.disjoint_left]; intro x hx hy
  rw [mem_rowSet] at hx hy
  exact h (Fin.ext (by omega))
theorem parts_disjoint (t : Fin 16) : ∀ c ∈ (Finset.univ : Finset (Fin 4)), ∀ e ∈ (Finset.univ : Finset (Fin 4)), c ≠ e → Disjoint (partSet t c) (partSet t e) := by
  intro c _ e _ h
  rw [Finset.disjoint_left]; intro x hx hy
  rw [mem_partSet] at hx hy
  exact h (Fin.ext (by omega))
theorem chunks_disjoint : ∀ c ∈ (Finset.univ : Finset (Fin 4)), ∀ e ∈ (Finset.univ : Finset (Fin 4)), c ≠ e → Disjoint (chunkSet c) (chunkSet e) := by
  intro c _ e _ h
  rw [Finset.disjoint_left]; intro x hx hy
  rw [mem_chunkSet] at hx hy
  exact h (Fin.ext (by omega))

theorem rows_cover : (Finset.univ : Finset (Fin 16)).biUnion rowSet = Finset.univ := by
  ext x
  have hx : (x 0).val < 16384 := (x 0).isLt
  simp only [Finset.mem_biUnion, Finset.mem_univ, true_and, iff_true]
  exact ⟨⟨(x 0).val / 1024, by omega⟩, (mem_rowSet _ _).mpr (by dsimp only; omega)⟩
theorem parts_cover (t : Fin 16) : (Finset.univ : Finset (Fin 4)).biUnion (partSet t) = rowSet t := by
  ext x
  simp only [Finset.mem_biUnion, Finset.mem_univ, true_and, mem_partSet, mem_rowSet]
  exact ⟨fun ⟨c, h⟩ => by omega, fun h => ⟨⟨((x 0).val - 1024 * t.val) / 256, by omega⟩, by dsimp only; omega⟩⟩
theorem chunks_cover : (Finset.univ : Finset (Fin 4)).biUnion chunkSet = Finset.univ := by
  ext x
  have hx : (x 0).val < 1024 := (x 0).isLt
  simp only [Finset.mem_biUnion, Finset.mem_univ, true_and, iff_true]
  exact ⟨⟨(x 0).val / 256, by omega⟩, (mem_chunkSet _ _).mpr (by dsimp only; omega)⟩

/-- The four of a conjunction over four. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The share of the table that tile `t` reads. -/
abbrev share (t : Fin 16) : PosShare TreeShare := ShareLeaves.leaf 4 fullShare t

/-- The index array and the output by tiles, a tile's part by chunks, the table by shares. -/
theorem i_rows (d : Dev nD) (f : Buf (Elt F) (iLoc d)) :
    (iLoc d ↦{fullShare} f : sProp 𝕄) = bigSep Finset.univ fun t : Fin 16 => iLoc d ↦[rowSet t]{fullShare} f := by
  rw [← pointsTo_biUnion Finset.univ (ℓ := iLoc d) rowSet rows_disjoint, rows_cover]
theorem o_rows (d : Dev nD) (f : Buf (Elt F) (oLoc d)) :
    (oLoc d ↦{fullShare} f : sProp 𝕄) = bigSep Finset.univ fun t : Fin 16 => oLoc d ↦[rowSet t]{fullShare} f := by
  rw [← pointsTo_biUnion Finset.univ (ℓ := oLoc d) rowSet rows_disjoint, rows_cover]
theorem i_parts (d : Dev nD) (t : Fin 16) (f : Buf (Elt F) (iLoc d)) :
    (iLoc d ↦[rowSet t]{fullShare} f : sProp 𝕄) = bigSep Finset.univ fun c : Fin 4 => iLoc d ↦[partSet t c]{fullShare} f := by
  rw [← pointsTo_biUnion Finset.univ (ℓ := iLoc d) (partSet t) (parts_disjoint t), parts_cover]
theorem o_parts (d : Dev nD) (t : Fin 16) (f : Buf (Elt F) (oLoc d)) :
    (oLoc d ↦[rowSet t]{fullShare} f : sProp 𝕄) = bigSep Finset.univ fun c : Fin 4 => oLoc d ↦[partSet t c]{fullShare} f := by
  rw [← pointsTo_biUnion Finset.univ (ℓ := oLoc d) (partSet t) (parts_disjoint t), parts_cover]
theorem v_shares (d : Dev nD) (f : Buf (Elt F) (vLoc d)) :
    (vLoc d ↦{fullShare} f : sProp 𝕄) = bigSep Finset.univ fun t : Fin 16 => vLoc d ↦{share t} f :=
  ShareLeaves.pointsTo_leaves Finset.univ f 4 fullShare

/-! ## What the handshakes carry -/

abbrev iPts (d : Dev nD) : sProp 𝕄 := iLoc d ↦{fullShare} m (iLoc d)
abbrev vPts (d : Dev nD) : sProp 𝕄 := vLoc d ↦{fullShare} tab m d
abbrev oPts (d : Dev nD) (f : Buf (Elt F) (oLoc d)) : sProp 𝕄 := oLoc d ↦{fullShare} f
abbrev iRow (d : Dev nD) (t : Fin 16) : sProp 𝕄 := iLoc d ↦[rowSet t]{fullShare} m (iLoc d)
abbrev vShr (d : Dev nD) (t : Fin 16) : sProp 𝕄 := vLoc d ↦{share t} tab m d
abbrev oRow (d : Dev nD) (t : Fin 16) (f : Buf (Elt F) (oLoc d)) : sProp 𝕄 := oLoc d ↦[rowSet t]{fullShare} f

/-- The call takes the indices, the table and the output whole, and brings the output back filled; each tile takes
    its part of the indices and of the output and a share of the table, and brings its part of the output back filled. -/
def P : (K (F := F)).Pay (nD := nD) (Val := Elt F) (Name := ℕ) (U := UU) where
  st := fun q d _ => match q with | 0 => iprop(iPts m d ∗ vPts m d ∗ oPts d (m (oLoc d)))
  dn := fun q d _ => match q with | 0 => iprop(iPts m d ∗ vPts m d ∗ oPts d (out m d))
  go := fun q d _ i => match q with
    | 0 => iprop(iRow m d (Fin.cast nSub_zero i) ∗ vShr m d (Fin.cast nSub_zero i) ∗ oRow d (Fin.cast nSub_zero i) (m (oLoc d)))
  td := fun q d _ i => match q with
    | 0 => iprop(iRow m d (Fin.cast nSub_zero i) ∗ vShr m d (Fin.cast nSub_zero i) ∗ oRow d (Fin.cast nSub_zero i) (out m d))
  x := fun _ _ => iprop(emp)

instance P_storable : (P (F := F) m).IsStorable where
  st q d _ := match q with
    | 0 => (inferInstance : BI.Storable (upEmb : UEmb _ 𝕄) iprop(iPts m d ∗ vPts m d ∗ oPts d (m (oLoc d))))
  dn q d _ := match q with
    | 0 => (inferInstance : BI.Storable (upEmb : UEmb _ 𝕄) iprop(iPts m d ∗ vPts m d ∗ oPts d (out m d)))
  go q d _ i := match q with
    | 0 => (inferInstance : BI.Storable (upEmb : UEmb _ 𝕄)
      iprop(iRow m d (Fin.cast nSub_zero i) ∗ vShr m d (Fin.cast nSub_zero i) ∗ oRow d (Fin.cast nSub_zero i) (m (oLoc d))))
  td q d _ i := match q with
    | 0 => (inferInstance : BI.Storable (upEmb : UEmb _ 𝕄)
      iprop(iRow m d (Fin.cast nSub_zero i) ∗ vShr m d (Fin.cast nSub_zero i) ∗ oRow d (Fin.cast nSub_zero i) (out m d)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The call's payload splits among the tiles, and the tiles' returns join into the call's return. -/
theorem vecSplit : (K (F := F)).VecSplit' (P m) 0 := by
  intro d c
  show iprop(iPts m d ∗ vPts m d ∗ oPts d (m (oLoc d))) ⊢ |={Set.univ}=> iprop(
      (bigSep Finset.univ fun i : Fin ((K (F := F)).nSub 0) =>
        iprop(iRow m d (Fin.cast nSub_zero i) ∗ vShr m d (Fin.cast nSub_zero i) ∗ oRow d (Fin.cast nSub_zero i) (m (oLoc d))))
      ∗ ((bigSep Finset.univ fun i : Fin ((K (F := F)).nSub 0) =>
          iprop(iRow m d (Fin.cast nSub_zero i) ∗ vShr m d (Fin.cast nSub_zero i) ∗ oRow d (Fin.cast nSub_zero i) (out m d)))
          -∗ iprop(iPts m d ∗ vPts m d ∗ oPts d (out m d))))
  rw [bigSep_tasks (F := F) (fun i => iprop(iRow m d i ∗ vShr m d i ∗ oRow d i (m (oLoc d)))),
    bigSep_tasks (F := F) (fun i => iprop(iRow m d i ∗ vShr m d i ∗ oRow d i (out m d))), bigSep_sep', bigSep_sep', bigSep_sep', bigSep_sep']
  unfold iPts vPts oPts iRow vShr oRow
  rw [i_rows, v_shares, o_rows, o_rows]
  iintro H; imodintro
  isplitl [H]; · iexact H
  iintro H; iexact H

end Cert.KernelIdeal.Proof

end
-- ==== Proof.Lookup.lean ====
/-
  The lookups: one group of sixteen lanes, then a run of groups, by induction on their number.
-/
module

public import proofs.«01_k».proof.Proof.Setup

@[expose] public section

noncomputable section

namespace Cert.KernelIdeal.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The output row with the words from `a` up to `b` looked up. -/
def fill (tb : S100.Idx → Elt F .f32) (ix : S1024.Idx → Elt F .i32) (a b : ℕ) (f : S1024.Idx → Elt F .f32) : S1024.Idx → Elt F .f32 :=
  fun x => if a ≤ (x 0).val ∧ (x 0).val < b then look tb (ix x) else f x

theorem fill_none (tb : S100.Idx → Elt F .f32) (ix : S1024.Idx → Elt F .i32) (a : ℕ) (f : S1024.Idx → Elt F .f32) : fill tb ix a a f = f := by
  funext x; exact if_neg (by omega)

theorem fill_fill (tb : S100.Idx → Elt F .f32) (ix : S1024.Idx → Elt F .i32) {a b c : ℕ} (hab : a ≤ b) (hbc : b ≤ c) (f : S1024.Idx → Elt F .f32) :
    fill tb ix b c (fill tb ix a b f) = fill tb ix a c f := by
  funext x; unfold fill
  by_cases h1 : b ≤ (x 0).val ∧ (x 0).val < c
  · rw [if_pos h1, if_pos (by omega)]
  · rw [if_neg h1]
    by_cases h2 : a ≤ (x 0).val ∧ (x 0).val < b
    · rw [if_pos h2, if_pos (by omega)]
    · rw [if_neg h2, if_neg (by omega)]

/-- The sixteen lanes of group `j`. -/
abbrev lanes (j : ℕ) (h : j < 64) : Rect S1024 := Rect.unit (s := S1024) ![16 * j] S16.size (lanes_inb j h)

theorem mem_lanes (j : ℕ) (h : j < 64) (x : S1024.Idx) : x ∈ (lanes j h).set ↔ 16 * j ≤ (x 0).val ∧ (x 0).val < 16 * j + 16 := by
  rw [Rect.mem_set_unit]; exact ⟨fun h => h 0, fun h a => by fin_cases a; exact h⟩

/-- The lookup of a loaded group, at a lane: the table entry of the lane's index. -/
theorem loadIdx_look (tb : S100.Idx → Elt F .f32) (v : IVec S16 32) (hv : ∀ a x, ((![v] : Fin 1 → IVec S16 32) a x).toNat < S100.size a) (x : S16.Idx) :
    loadIdx tb ![v] hv x = look tb (v x) := by
  have h : (v x).toNat < 100 := hv 0 x
  show tb (idxAt ![v] hv x) = tb _
  refine congrArg tb (funext fun a => ?_)
  fin_cases a
  exact Fin.ext (Nat.mod_eq_of_lt h).symm

/-- Storing a looked-up group fills its lanes. -/
theorem write_group (tb : S100.Idx → Elt F .f32) (ix : S1024.Idx → Elt F .i32) (f : S1024.Idx → Elt F .f32) (j : ℕ) (h : j < 64)
    (hv : ∀ a x, ((![(sI).view.readAt (Elt F) (lanes j h).toLoadRect ix] : Fin 1 → IVec S16 32) a x).toNat < S100.size a) :
    (sO.access (lanes j h)).write (Elt F) f (loadIdx tb ![(sI).view.readAt (Elt F) (lanes j h).toLoadRect ix] hv) Finset.univ
      = fill tb ix (16 * j) (16 * j + 16) f := by
  funext x
  by_cases hx : x ∈ (lanes j h).set
  · obtain ⟨y, rfl⟩ : ∃ y, (lanes j h).emb y = x := by
      rw [← Rect.map_emb_univ] at hx
      obtain ⟨y, -, hy⟩ := Finset.mem_map.mp hx
      exact ⟨y, hy⟩
    refine (View.write_emb_of_mem (v := sO.access (lanes j h)) f _ (Finset.mem_univ y)).trans ?_
    refine (cast_eq _ _).trans ((loadIdx_look tb _ hv y).trans ?_)
    exact (if_pos ((mem_lanes j h _).mp hx)).symm
  · refine (View.write_of_not_mem (v := sO.access (lanes j h)) f _ _ (fun hm => hx ?_)).trans (if_neg fun e => hx ((mem_lanes j h x).mpr e)).symm
    rwa [View.setOn_univ, View.set_slice_whole] at hm

section

variable (d : Dev nD) (c : Fin τ.nSC) (i : Fin τ.nSub)

/-- One group, held the indices of its chunk, the table, and the chunk of the output. -/
theorem wp_group {α : Type} {Q : α → sProp 𝕄} (j : ℕ) (h : j < 64) (S : Finset S1024.Idx) (hS : (lanes j h).set ⊆ S)
    (ix : S1024.Idx → Elt F .i32) (hix : ∀ x, (ix x).toNat < 100) (tb : S100.Idx → Elt F .f32) (f : S1024.Idx → Elt F .f32)
    {k : PUnit → Prog (TpuEff nD τ sig (Elt F) Λ₀ (V d c i).2) α} :
    iprop(((V d c i).loc cc0_scratch0 ↦[S]{fullShare} ix) ∗ ((V d c i).loc cc0_scratch1 ↦{fullShare} tb) ∗ ((V d c i).loc cc0_scratch2 ↦[S]{fullShare} f))
      ⊢ iprop((((V d c i).loc cc0_scratch0 ↦[S]{fullShare} ix) ∗ ((V d c i).loc cc0_scratch1 ↦{fullShare} tb)
            ∗ ((V d c i).loc cc0_scratch2 ↦[S]{fullShare} (fill tb ix (16 * j) (16 * j + 16) f))
          -∗ wp frame (wpE (defs₀ (F := F)) 𝒱₀ (V d c i) none) Set.univ (k ⟨⟩) Q)
        -∗ wp frame (wpE (defs₀ (F := F)) 𝒱₀ (V d c i) none) Set.univ (group (p := (V d c i).2) sI sV sO j h >>= k) Q) := by
  have hv : k0_chk1 ((sI).view.readAt (Elt F) (lanes j h).toLoadRect ix) := by
    intro a x; fin_cases a; exact hix _
  rw [wp_bind]
  unfold group
  simp only [Prog.bind_lift]
  iintro ⟨Hi, Ht, Ho⟩ Hk
  iapply (wp_load 𝒱₀ (V d c i) none Set.univ (m := sI) (r := (lanes j h).toLoadRect) (S := S) (by
      rwa [show (sI).view.setOn (lanes j h).toLoadRect.set = (lanes j h).set from Finset.map_refl])) $$ Hi
  iintro Hi
  beta_reduce
  rw [wp_assume_of 𝒱₀ (V d c i) none Set.univ hv]
  iapply (SparseCore.wp_vectorLoadIdx 𝒱₀ (V d c i) none Set.univ (base := sV) (S := Finset.univ) (Finset.subset_univ _)) $$ Ht
  iintro Ht
  iapply (wp_load 𝒱₀ (V d c i) none Set.univ (m := sO) (r := (lanes j h).toLoadRect) (S := S) (by
      rwa [show (sO).view.setOn (lanes j h).toLoadRect.set = (lanes j h).set from Finset.map_refl])) $$ Ho
  iintro Ho
  iapply (wp_store 𝒱₀ (V d c i) none Set.univ (m := sO) (r := lanes j h) (S := S) (by
      rwa [View.setOn_univ, View.set_slice_whole])) $$ Ho
  iintro Ho
  rw [wp_ret]; imodintro
  iapply Hk
  isplitl [Hi]; · iexact Hi
  isplitl [Ht]; · iexact Ht
  rw [show (sV.access (Rect.whole S100)).read (Elt F) tb = tb from Memref.read_access_whole (Elt F) cc0_scratch1 tb, write_group tb ix f j h hv]
  iexact Ho

/-- A run of groups. -/
theorem wp_groups {α : Type} {Q : α → sProp 𝕄} (S : Finset S1024.Idx) (ix : S1024.Idx → Elt F .i32) (hix : ∀ x, (ix x).toNat < 100)
    (tb : S100.Idx → Elt F .f32) : ∀ (n j : ℕ) (h : j + n ≤ 64) (hS : ∀ x : S1024.Idx, 16 * j ≤ (x 0).val → (x 0).val < 16 * (j + n) → x ∈ S)
    (f : S1024.Idx → Elt F .f32) {k : PUnit → Prog (TpuEff nD τ sig (Elt F) Λ₀ (V d c i).2) α},
    iprop(((V d c i).loc cc0_scratch0 ↦[S]{fullShare} ix) ∗ ((V d c i).loc cc0_scratch1 ↦{fullShare} tb) ∗ ((V d c i).loc cc0_scratch2 ↦[S]{fullShare} f))
      ⊢ iprop((((V d c i).loc cc0_scratch0 ↦[S]{fullShare} ix) ∗ ((V d c i).loc cc0_scratch1 ↦{fullShare} tb)
            ∗ ((V d c i).loc cc0_scratch2 ↦[S]{fullShare} (fill tb ix (16 * j) (16 * (j + n)) f))
          -∗ wp frame (wpE (defs₀ (F := F)) 𝒱₀ (V d c i) none) Set.univ (k ⟨⟩) Q)
        -∗ wp frame (wpE (defs₀ (F := F)) 𝒱₀ (V d c i) none) Set.univ (groups (p := (V d c i).2) sI sV sO n j h >>= k) Q)
  | 0, j, h, hS, f, k => by
    rw [Nat.add_zero, fill_none]
    iintro H Hk
    iapply Hk $$ H
  | n + 1, j, h, hS, f, k => by
    have e : 16 * (j + (n + 1)) = 16 * (j + 1 + n) := by omega
    rw [groups, Prog.bind_assoc]
    iintro H Hk
    iapply (wp_group d c i j _ S (fun x hx => by
      rw [mem_lanes] at hx; exact hS x hx.1 (by omega)) ix hix tb f) $$ H
    iintro H
    iapply (wp_groups S ix hix tb n (j + 1) _ (fun x h1 h2 => hS x (by omega) (by omega)) _) $$ H
    rw [show 16 * j + 16 = 16 * (j + 1) by omega, fill_fill tb ix (by omega) (by omega), ← e]
    iexact Hk

end

end Cert.KernelIdeal.Proof

end
-- ==== Proof.Tile.lean ====
/-
  One tile's task: the table and the four chunks of indices fetched, each chunk looked up and sent, the four
  sends waited for together. Every step is stated once, at a chunk number.
-/
module

public import proofs.«01_k».proof.Proof.Lookup

@[expose] public section

noncomputable section

namespace Cert.KernelIdeal.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## What a copy leaves -/

/-- A chunk's word of the whole row, from its place in the tile's own row. -/
theorem emb_part (t : Fin 16) (c : Fin 4) (y : S256.Idx) :
    (Rect.unit (s := S16384) ![1024 * t.val + 256 * c.val] S256.size (part_inb t c)).emb y
      = at16 t ((Rect.unit (s := S1024) ![256 * c.val] S256.size (chunk_inb c)).emb y) := by
  refine funext fun a => ?_
  fin_cases a
  refine Fin.ext ?_
  show 1024 * t.val + 256 * c.val + 1 * (y 0).val = 1024 * t.val + (256 * c.val + 1 * (y 0).val)
  omega

/-- What an index chunk's copy leaves in the tile's index row. -/
theorem fetched (d : Dev nD) (t : Fin 16) (c : Fin 4) (f : S1024.Idx → Elt F .i32) :
    ∀ x ∈ chunkSet c, (ownC sI c).view.write (Elt F) f ((winC iM t c).view.read (Elt F) (m (iLoc d))) Finset.univ x = ownI m d t x := by
  intro x hx
  unfold chunkSet at hx
  rw [← Rect.map_emb_univ] at hx
  obtain ⟨y, -, rfl⟩ := Finset.mem_map.mp hx
  refine (View.write_emb_of_mem (v := (ownC sI c).view) f _ (Finset.mem_univ y)).trans ((cast_eq _ _).trans ?_)
  exact congrArg (m (iLoc d)) (emb_part t c y)

/-- What an output chunk's copy leaves in the output. -/
theorem delivered (d : Dev nD) (t : Fin 16) (c : Fin 4) (f : S16384.Idx → Elt F .f32) :
    ∀ x ∈ partSet t c, (winC oM t c).view.write (Elt F) f ((ownC sO c).view.read (Elt F) (ownO m d t)) Finset.univ x = out m d x := by
  intro x hx
  unfold partSet at hx
  rw [← Rect.map_emb_univ] at hx
  obtain ⟨y, -, rfl⟩ := Finset.mem_map.mp hx
  refine (View.write_emb_of_mem (v := (winC oM t c).view) f _ (Finset.mem_univ y)).trans ((cast_eq _ _).trans ?_)
  exact congrArg (fun b => look (tab m d) (m (iLoc d) b)) (emb_part t c y).symm

/-- A chunk's sixteen groups fill it. -/
theorem filled (d : Dev nD) (t : Fin 16) (c : Fin 4) (f : S1024.Idx → Elt F .f32) :
    ∀ x ∈ chunkSet c, fill (tab m d) (ownI m d t) (16 * (16 * c.val)) (16 * (16 * c.val + 16)) f x = ownO m d t x := by
  intro x hx
  rw [mem_chunkSet] at hx
  exact if_pos (by omega)

section

variable (d : Dev nD) (p : Fin τ.nSC) (i : Fin τ.nSub)

/-- The tile's own three rows. -/
abbrev sILoc : Loc nD τ sig := (V d p i).loc cc0_scratch0
abbrev sVLoc : Loc nD τ sig := (V d p i).loc cc0_scratch1
abbrev sOLoc : Loc nD τ sig := (V d p i).loc cc0_scratch2

theorem sI_chunks (f : Buf (Elt F) (sILoc d p i)) :
    (sILoc d p i ↦{fullShare} f : sProp 𝕄) = bigSep Finset.univ fun c : Fin 4 => sILoc d p i ↦[chunkSet c]{fullShare} f := by
  rw [← pointsTo_biUnion Finset.univ (ℓ := sILoc d p i) chunkSet chunks_disjoint, chunks_cover]
theorem sO_chunks (f : Buf (Elt F) (sOLoc d p i)) :
    (sOLoc d p i ↦{fullShare} f : sProp 𝕄) = bigSep Finset.univ fun c : Fin 4 => sOLoc d p i ↦[chunkSet c]{fullShare} f := by
  rw [← pointsTo_biUnion Finset.univ (ℓ := sOLoc d p i) chunkSet chunks_disjoint, chunks_cover]

/-- A chunk as the program slices it is the chunk's set. -/
theorem pts_winI (t : Fin 16) (c : Fin 4) (f : Buf (Elt F) (iLoc d)) :
    ((winC iM t c).view.loc (V d p i) ↦[(winC iM t c).view.set]{fullShare} f : sProp 𝕄) = iLoc d ↦[partSet t c]{fullShare} f := by
  rw [show (winC iM t c).view.set = partSet t c from View.set_slice_whole _ _]
theorem pts_ownO (c : Fin 4) (f : Buf (Elt F) (sOLoc d p i)) :
    ((ownC sO c).view.loc (V d p i) ↦[(ownC sO c).view.set]{fullShare} f : sProp 𝕄) = sOLoc d p i ↦[chunkSet c]{fullShare} f := by
  rw [show (ownC sO c).view.set = chunkSet c from View.set_slice_whole _ _]

/-! ## The steps -/

/-- The waits made so far: those before the task, and the task's own. -/
def Owes (O : CellTallies nD τ sig (HIx 1)) (W : Waits sig (HIx 1)) : sProp 𝕄 :=
  iprop(∃ W', ⌜∀ q ∈ W', q ∈ W ∨ q.2 = none⌝ ∗ owes (V d p i) O W')

variable (O : CellTallies nD τ sig (HIx 1)) (W : Waits sig (HIx 1))

/-- Every wait of the task may be made. -/
abbrev May : sProp 𝕄 := Transfers.MayWaits (V d p i) (default : HIx 1) O

theorem owes_insert (sm : SemLoc sig) (W' : Waits sig (HIx 1)) (h : ∀ q ∈ W', q ∈ W ∨ q.2 = none) :
    ∀ q ∈ insert (sm, (default : HIx 1)) W', q ∈ W ∨ q.2 = none := by
  intro q hq
  rcases Finset.mem_insert.mp hq with hq | hq
  · exact .inr (hq ▸ rfl)
  · exact h q hq

/-- A wait for the one copy in flight on its semaphore. -/
theorem wp_arrive {α : Type} {Q : α → sProp 𝕄} {sp sp' : Space} {s s' : Shape} {e e' : EltTy} {sem : DmaSem sig}
    {src : Memref sig .scVector sp' s' e'} {dst : Memref sig .scVector sp s e} {hs : src.view.WordExact} {hd : dst.view.WordExact}
    {k : PUnit → Prog (TpuEff nD τ sig (Elt F) Λ₀ (V d p i).2) α} {R : sProp 𝕄} :
    iprop(Transfers.Flight (countersEmb (U := UU)) (V d p i) (.dma sem) (default : HIx 1) dst.view.dmaCredit R ∗ Owes d p i O W ∗ May d p i O)
      ⊢ iprop((iprop(R ∗ semVal (V d p i, .dma sem) 0 ∗ Owes d p i O W) -∗ wp frame (wpE (defs₀ (F := F)) 𝒱₀ (V d p i) none) Set.univ (k ⟨⟩) Q)
          -∗ wp frame (wpE (defs₀ (F := F)) 𝒱₀ (V d p i) none) Set.univ (.op (.waitDma2 sem src dst hs hd) k) Q) := by
  unfold Owes
  iintro ⟨Hf, ⟨%W', %hW, HO⟩, Hm⟩ Hk
  iapply (Transfers.wp_waitLocalO countersEmb 𝒱₀ (V d p i) none (default : HIx 1) (rfl : dst.view.dmaCredit = _)) $$ [Hf HO Hm]
  · isplitl [Hf]; · iexact Hf
    isplitl [HO]; · iexact HO
    iapply (Transfers.MayWaits.elim (SemLoc.dma sem)) $$ Hm
  iintro ⟨HR, Hs, HO⟩
  iapply Hk
  isplitl [HR]; · iexact HR
  isplitl [Hs]; · iexact Hs
  iexists (insert (SemLoc.dma sem, (default : HIx 1)) W'); isplitr
  · ipureintro; exact owes_insert W _ W' hW
  iexact HO

/-- The units a chunk's copy counts. -/
theorem credit_i (c : Fin 4) : 0 < (ownC sI c).view.dmaCredit :=
  show 0 < (cc0_scratch0 : Ref sig .scVector).dmaCredit S256 .i32 by decide
abbrev unitsO : ℕ := (main_v1_scv : Ref sig .scVector).dmaCredit S256 .f32

/-- Chunk `c` of the tile's index row filled, its source back. -/
abbrev Fetched (t : Fin 16) (c : Fin 4) : sProp 𝕄 :=
  iprop((sILoc d p i ↦[chunkSet c]{fullShare} (ownI m d t)) ∗ (iLoc d ↦[partSet t c]{fullShare} m (iLoc d)))

/-- The start of an index chunk's copy. -/
theorem wp_fetch {α : Type} {Q : α → sProp 𝕄} (t : Fin 16) (c : Fin 4) (f : S1024.Idx → Elt F .i32) {sem : DmaSem sig}
    {hs : (winC iM t c).view.WordExact} {hd : (ownC sI c).view.WordExact} {hsem : DmaTarget.Typed (nD := nD) (p := (V d p i).2) .hbm (.dma sem) (.here (ownC sI c))}
    {k : PUnit → Prog (TpuEff nD τ sig (Elt F) Λ₀ (V d p i).2) α} :
    iprop((iLoc d ↦[partSet t c]{fullShare} m (iLoc d)) ∗ (sILoc d p i ↦[chunkSet c]{fullShare} f) ∗ semVal (V d p i, .dma sem) 0)
      ⊢ iprop((Transfers.Flight (countersEmb (U := UU)) (V d p i) (.dma sem) (default : HIx 1) (ownC sI c).view.dmaCredit (Fetched m d p i t c)
            -∗ wp frame (wpE (defs₀ (F := F)) 𝒱₀ (V d p i) none) Set.univ (k ⟨⟩) Q)
          -∗ wp frame (wpE (defs₀ (F := F)) 𝒱₀ (V d p i) none) Set.univ
            (.op (.enqueueDma (winC iM t c) (.here (ownC sI c)) (.dma sem) hs hd hsem) k) Q) := by
  iintro ⟨Hi, Hf, Hs⟩ Hk
  iapply (Transfers.wp_dmaLocal countersEmb 𝒱₀ (V d p i) none (default : HIx 1) (ownC sI c).view.dmaCredit rfl
    (credit_i c) (Sd := chunkSet c) (Finset.subset_of_eq (View.set_slice_whole _ _))) $$ [Hi Hf Hs]
  · isplitl [Hi]; · iapply (Entails.of_eq (pts_winI d p i t c _).symm) $$ Hi
    isplitl [Hf]; · iexact Hf
    iexact Hs
  iintro Hfl
  iapply Hk
  iapply (Transfers.Flight_mono (countersEmb (U := UU)) (V d p i) (?_ : _ ⊢ Fetched m d p i t c)) $$ Hfl
  iintro ⟨Hf, Hi⟩
  isplitl [Hf]
  · iapply (Entails.of_eq (pointsTo_congr (fetched m d t c f))) $$ Hf
  · iapply (Entails.of_eq (pts_winI d p i t c _)) $$ Hi

/-- What the send of chunk `c` delivers: the output's part filled, the tile's own chunk back. -/
abbrev Sent (t : Fin 16) (c : Fin 4) : sProp 𝕄 :=
  iprop((oLoc d ↦[partSet t c]{fullShare} out m d) ∗ (sOLoc d p i ↦[chunkSet c]{fullShare} (ownO m d t)))

/-- The four sends on their one semaphore, `k` started and `u` units waited for. -/
abbrev Sends (sem : DmaSem sig) (t : Fin 16) (k u : ℕ) : sProp 𝕄 :=
  Transfers.Batch (countersEmb (U := UU)) (V d p i) (.dma sem) (default : HIx 1) unitsO (Sent m d p i t) k u

/-- The start of an output chunk's copy. -/
theorem wp_send {α : Type} {Q : α → sProp 𝕄} (t : Fin 16) (c : Fin 4) (f : S16384.Idx → Elt F .f32) {sem : DmaSem sig}
    {hs : (ownC sO c).view.WordExact} {hd : (winC oM t c).view.WordExact}
    {hsem : DmaTarget.Typed (nD := nD) (p := (V d p i).2) .vmem (.dma sem) (.here (winC oM t c))}
    {k : PUnit → Prog (TpuEff nD τ sig (Elt F) Λ₀ (V d p i).2) α} :
    iprop((sOLoc d p i ↦[chunkSet c]{fullShare} (ownO m d t)) ∗ (oLoc d ↦[partSet t c]{fullShare} f) ∗ Sends m d p i sem t c.val 0)
      ⊢ iprop((Sends m d p i sem t (c.val + 1) 0 -∗ wp frame (wpE (defs₀ (F := F)) 𝒱₀ (V d p i) none) Set.univ (k ⟨⟩) Q)
          -∗ wp frame (wpE (defs₀ (F := F)) 𝒱₀ (V d p i) none) Set.univ
            (.op (.enqueueDma (ownC sO c) (.here (winC oM t c)) (.dma sem) hs hd hsem) k) Q) := by
  iintro ⟨Hs, Ho, HB⟩ Hk
  iapply (Transfers.wp_dmaBatch countersEmb 𝒱₀ (V d p i) none (default : HIx 1) unitsO rfl (Sd := partSet t c)
    (Finset.subset_of_eq (View.set_slice_whole _ _)) c.isLt (Nat.zero_le _) (D := Sent m d p i t) (fs := ownO m d t) (fd := f) (q := fullShare) ?_) $$ [Hs Ho HB]
  · iintro ⟨Ho, Hs⟩
    isplitl [Ho]
    · iapply (Entails.of_eq (pointsTo_congr (delivered m d t c f))) $$ Ho
    · iapply (Entails.of_eq (pts_ownO d p i c _)) $$ Hs
  · isplitl [Hs]; · iapply (Entails.of_eq (pts_ownO d p i c _).symm) $$ Hs
    isplitl [Ho]; · iexact Ho
    iexact HB
  iexact Hk

/-- One chunk: its indices waited for, looked up, and the looked-up words sent. -/
theorem wp_chunk {α : Type} {Q : α → sProp 𝕄} (t : Fin 16) (c : Fin 4) (f : S1024.Idx → Elt F .f32) (g : S16384.Idx → Elt F .f32)
    (hpre : PreOK m) {sem semo : DmaSem sig} {h : 16 * c.val + 16 ≤ 64}
    {hs : (winC iM t c).view.WordExact} {hd : (ownC sI c).view.WordExact}
    {hs' : (ownC sO c).view.WordExact} {hd' : (winC oM t c).view.WordExact}
    {hsem : DmaTarget.Typed (nD := nD) (p := (V d p i).2) .vmem (.dma semo) (.here (winC oM t c))}
    {k : PUnit → Prog (TpuEff nD τ sig (Elt F) Λ₀ (V d p i).2) α} :
    iprop(Transfers.Flight (countersEmb (U := UU)) (V d p i) (.dma sem) (default : HIx 1) (ownC sI c).view.dmaCredit (Fetched m d p i t c)
        ∗ Owes d p i O W ∗ May d p i O ∗ (sVLoc d p i ↦{fullShare} tab m d) ∗ (sOLoc d p i ↦[chunkSet c]{fullShare} f)
        ∗ (oLoc d ↦[partSet t c]{fullShare} g) ∗ Sends m d p i semo t c.val 0)
      ⊢ iprop((iprop(Fetched m d p i t c ∗ semVal (V d p i, .dma sem) 0 ∗ Owes d p i O W ∗ (sVLoc d p i ↦{fullShare} tab m d)
            ∗ Sends m d p i semo t (c.val + 1) 0) -∗ wp frame (wpE (defs₀ (F := F)) 𝒱₀ (V d p i) none) Set.univ (k ⟨⟩) Q)
          -∗ wp frame (wpE (defs₀ (F := F)) 𝒱₀ (V d p i) none) Set.univ
            (.op (.waitDma2 sem (winC iM t c) (ownC sI c) hs hd) fun _ =>
              groups (p := (V d p i).2) sI sV sO 16 (16 * c.val) h >>= fun _ =>
                .op (.enqueueDma (ownC sO c) (.here (winC oM t c)) (.dma semo) hs' hd' hsem) k) Q) := by
  iintro ⟨Hfl, HO, Hm, Ht, Hf, Hg, HB⟩ Hk
  iapply (wp_arrive d p i O W) $$ [Hfl HO Hm]
  · isplitl [Hfl]; · iexact Hfl
    isplitl [HO]; · iexact HO
    iexact Hm
  iintro ⟨⟨Hi, Hsrc⟩, Hs, HO⟩
  iapply (wp_groups d p i (chunkSet c) (ownI m d t) (fun x => hpre d _) (tab m d) 16 (16 * c.val) h (fun x h1 h2 => by
    rw [mem_chunkSet]; omega) f) $$ [Hi Ht Hf]
  · isplitl [Hi]; · iexact Hi
    isplitl [Ht]; · iexact Ht
    iexact Hf
  iintro ⟨Hi, Ht, Hf⟩
  iapply (wp_send m d p i t c g) $$ [Hf Hg HB]
  · isplitl [Hf]
    · iapply (Entails.of_eq (pointsTo_congr (filled m d t c f))) $$ Hf
    isplitl [Hg]; · iexact Hg
    iexact HB
  iintro HB
  iapply Hk
  isplitl [Hi Hsrc]
  · isplitl [Hi]; · iexact Hi
    iexact Hsrc
  isplitl [Hs]; · iexact Hs
  isplitl [HO]; · iexact HO
  isplitl [Ht]; · iexact Ht
  iexact HB

end

end Cert.KernelIdeal.Proof

end
-- ==== Proof.Task.lean ====
/-
  The tile's whole task from its steps, and the launch's obligation for it.
-/
module

public import proofs.«01_k».proof.Proof.Tile
public import Idealize.ShloMosaic.Lib.SparseCore.Scatter

@[expose] public section

noncomputable section

namespace Cert.KernelIdeal.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

section

variable (d : Dev nD) (p : Fin τ.nSC) (i : Fin τ.nSub) (O : CellTallies nD τ sig (HIx 1)) (W : Waits sig (HIx 1))

/-- The tile's table filled, its share of the source back. -/
abbrev Tabled (t : Fin 16) : sProp 𝕄 := iprop((sVLoc d p i ↦{fullShare} tab m d) ∗ vShr m d t)

/-- The start of the table's copy. -/
theorem wp_fetchTable {α : Type} {Q : α → sProp 𝕄} (t : Fin 16) (f : S100.Idx → Elt F .f32) {sem : DmaSem sig}
    {hs : vM.view.WordExact} {hd : sV.view.WordExact} {hsem : DmaTarget.Typed (nD := nD) (p := (V d p i).2) .hbm (.dma sem) (.here sV)}
    {k : PUnit → Prog (TpuEff nD τ sig (Elt F) Λ₀ (V d p i).2) α} :
    iprop(vShr m d t ∗ (sVLoc d p i ↦{fullShare} f) ∗ semVal (V d p i, .dma sem) 0)
      ⊢ iprop((Transfers.Flight (countersEmb (U := UU)) (V d p i) (.dma sem) (default : HIx 1) sV.view.dmaCredit (Tabled m d p i t)
            -∗ wp frame (wpE (defs₀ (F := F)) 𝒱₀ (V d p i) none) Set.univ (k ⟨⟩) Q)
          -∗ wp frame (wpE (defs₀ (F := F)) 𝒱₀ (V d p i) none) Set.univ (.op (.enqueueDma vM (.here sV) (.dma sem) hs hd hsem) k) Q) := by
  have hv : vM.view.set = Finset.univ := View.set_whole _
  have e : ((vM.view.loc (V d p i) ↦[vM.view.set]{share t} tab m d) : sProp 𝕄) = vShr m d t := by rw [hv]
  have ew : sV.view.write (Elt F) f (vM.view.read (Elt F) (tab m d)) Finset.univ = tab m d := View.write_whole_univ _ _ _
  iintro ⟨Hv, Hf, Hs⟩ Hk
  iapply (Transfers.wp_dmaLocal countersEmb 𝒱₀ (V d p i) none (default : HIx 1) sV.view.dmaCredit rfl
    (by decide) (Sd := Finset.univ) (Finset.subset_univ _)) $$ [Hv Hf Hs]
  · isplitl [Hv]; · iapply (Entails.of_eq e.symm) $$ Hv
    isplitl [Hf]; · iexact Hf
    iexact Hs
  iintro Hfl
  iapply Hk
  iapply (Transfers.Flight_mono (countersEmb (U := UU)) (V d p i) (?_ : _ ⊢ Tabled m d p i t)) $$ Hfl
  iintro ⟨Hf, Hv⟩
  isplitl [Hf]
  · iapply (Entails.of_eq (congrArg (fun g => (sVLoc d p i ↦{fullShare} g : sProp 𝕄)) ew)) $$ Hf
  · iapply (Entails.of_eq e) $$ Hv

/-- A wait of the sends that is not the last. -/
theorem wp_drain {α : Type} {Q : α → sProp 𝕄} (t : Fin 16) (c : Fin 4) (u : ℕ) (hu : u + unitsO < unitsO * 4) {sem : DmaSem sig}
    {hs : (ownC sO c).view.WordExact} {hd : (winC oM t c).view.WordExact} {k : PUnit → Prog (TpuEff nD τ sig (Elt F) Λ₀ (V d p i).2) α} :
    iprop(Sends m d p i sem t 4 u ∗ Owes d p i O W ∗ May d p i O)
      ⊢ iprop((iprop(Sends m d p i sem t 4 (u + unitsO) ∗ Owes d p i O W) -∗ wp frame (wpE (defs₀ (F := F)) 𝒱₀ (V d p i) none) Set.univ (k ⟨⟩) Q)
          -∗ wp frame (wpE (defs₀ (F := F)) 𝒱₀ (V d p i) none) Set.univ (.op (.waitDma2 sem (ownC sO c) (winC oM t c) hs hd) k) Q) := by
  unfold Owes
  iintro ⟨HB, ⟨%W', %hW, HO⟩, Hm⟩ Hk
  iapply (Transfers.wp_waitBatchO countersEmb 𝒱₀ (V d p i) none (default : HIx 1) (rfl : (winC oM t c).view.dmaCredit = unitsO) hu) $$ [HB HO Hm]
  · isplitl [HB]; · iexact HB
    isplitl [HO]; · iexact HO
    iapply (Transfers.MayWaits.elim (SemLoc.dma sem)) $$ Hm
  iintro ⟨HB, HO⟩
  iapply Hk
  isplitl [HB]; · iexact HB
  iexists (insert (SemLoc.dma sem, (default : HIx 1)) W'); isplitr
  · ipureintro; exact owes_insert W _ W' hW
  iexact HO

/-- The last wait of the sends: all four have landed. -/
theorem wp_drained {α : Type} {Q : α → sProp 𝕄} (t : Fin 16) (c : Fin 4) (u : ℕ) (hu : u + unitsO = unitsO * 4) {sem : DmaSem sig}
    {hs : (ownC sO c).view.WordExact} {hd : (winC oM t c).view.WordExact} {k : PUnit → Prog (TpuEff nD τ sig (Elt F) Λ₀ (V d p i).2) α} :
    iprop(Sends m d p i sem t 4 u ∗ Owes d p i O W ∗ May d p i O)
      ⊢ iprop((iprop(bigSep Finset.univ (Sent m d p i t) ∗ semVal (V d p i, .dma sem) 0 ∗ Owes d p i O W)
            -∗ wp frame (wpE (defs₀ (F := F)) 𝒱₀ (V d p i) none) Set.univ (k ⟨⟩) Q)
          -∗ wp frame (wpE (defs₀ (F := F)) 𝒱₀ (V d p i) none) Set.univ (.op (.waitDma2 sem (ownC sO c) (winC oM t c) hs hd) k) Q) := by
  unfold Owes
  iintro ⟨HB, ⟨%W', %hW, HO⟩, Hm⟩ Hk
  iapply (Transfers.wp_waitBatchLastO countersEmb 𝒱₀ (V d p i) none (default : HIx 1) (rfl : (winC oM t c).view.dmaCredit = unitsO) (show 0 < unitsO by decide) hu) $$ [HB HO Hm]
  · isplitl [HB]; · iexact HB
    isplitl [HO]; · iexact HO
    iapply (Transfers.MayWaits.elim (SemLoc.dma sem)) $$ Hm
  iintro ⟨HD, Hs, HO⟩
  iapply Hk
  isplitl [HD]; · iexact HD
  isplitl [Hs]; · iexact Hs
  iexists (insert (SemLoc.dma sem, (default : HIx 1)) W'); isplitr
  · ipureintro; exact owes_insert W _ W' hW
  iexact HO

/-! ## What a tile owns -/

/-- The six semaphores of the task. -/
abbrev taskSems : Finset (SemLoc sig) :=
  {.dma cc0_scratch3.sem, .dma cc0_scratch4.sem, .dma cc0_scratch5.sem, .dma cc0_scratch6.sem, .dma cc0_scratch7.sem, .dma cc0_scratch8.sem}

abbrev cellOf : SemLoc sig ↪ GSem nD τ sig := ⟨fun s => (V d p i, s), fun _ _ h => (Prod.mk.inj h).2⟩

theorem taskSems_own : taskSems.map (cellOf d p i) ⊆ ownCells (V d p i) := by
  intro g hg
  obtain ⟨s, hs, rfl⟩ := Finset.mem_map.mp hg
  exact mem_ownCells.mpr ⟨rfl, (show ∀ s ∈ taskSems, (s : SemLoc sig).isScoped .scVector = true by decide) s hs⟩

/-- They are among the tile's own, all at zero. -/
theorem ownSems0_task :
    (ownSems0 (V d p i) : sProp 𝕄)
      = iprop((semVal (V d p i, .dma cc0_scratch3.sem) 0 ∗ semVal (V d p i, .dma cc0_scratch4.sem) 0 ∗ semVal (V d p i, .dma cc0_scratch5.sem) 0
          ∗ semVal (V d p i, .dma cc0_scratch6.sem) 0 ∗ semVal (V d p i, .dma cc0_scratch7.sem) 0 ∗ semVal (V d p i, .dma cc0_scratch8.sem) 0)
          ∗ bigSep (ownCells (V d p i) \ taskSems.map (cellOf d p i)) fun g => semVal g 0) := by
  unfold SparseCore.Cfg.ownSems0
  rw [SparseCore.bigSep_sdiff_split' (taskSems_own d p i), SparseCore.bigSep_map, SparseCore.bigSep_insert' (by decide), SparseCore.bigSep_insert' (by decide),
    SparseCore.bigSep_insert' (by decide), SparseCore.bigSep_insert' (by decide), SparseCore.bigSep_insert' (by decide), bigSep_singleton]
  rfl

/-- The three rows of the task. -/
abbrev taskRefs : Finset (Ref sig .scVector) := {cc0_scratch0, cc0_scratch1, cc0_scratch2}

abbrev bufOf : Ref sig .scVector ↪ DevRef τ sig := ⟨(Proc.scVector p i).devRef, Proc.devRef_injective _⟩

theorem taskRefs_own : taskRefs.map (bufOf p i) ⊆ ownRefs (τ := τ) (.scVector p i) := by
  intro b hb
  obtain ⟨r, hr, rfl⟩ := Finset.mem_map.mp hb
  refine SparseCore.Cfg.mem_ownRefs_of_owner (p := Proc.scVector p i) ?_
  rcases Finset.mem_insert.mp hr with rfl | hr; · rfl
  rcases Finset.mem_insert.mp hr with rfl | hr; · rfl
  rw [Finset.mem_singleton.mp hr]; rfl

/-- They are among the tile's own, at some contents. -/
theorem ownBufs_task :
    (ownBufs (V d p i) : sProp 𝕄)
      = iprop(((∃ f, sILoc d p i ↦{fullShare} f) ∗ (∃ f, sVLoc d p i ↦{fullShare} f) ∗ (∃ f, sOLoc d p i ↦{fullShare} f))
          ∗ bigSep (ownRefs (τ := τ) (.scVector p i) \ taskRefs.map (bufOf p i)) fun b => iprop(∃ f, ((d, b) : Loc nD τ sig) ↦{fullShare} f)) := by
  unfold SparseCore.Cfg.ownBufs
  refine (SparseCore.bigSep_sdiff_split' (taskRefs_own p i)).trans ?_
  rw [SparseCore.bigSep_map, SparseCore.bigSep_insert' (by decide), SparseCore.bigSep_insert' (by decide), bigSep_singleton]
  rfl

end

/-! ## The task -/

section

variable (d : Dev nD) (L : grid0.Coords)

abbrev cV (L : grid0.Coords) : Fin τ.nSC := (L 0).castLE hcore0
abbrev jV (L : grid0.Coords) : Fin τ.nSub := (L 1).castLE hsub0

set_option maxHeartbeats 2000000 in
/-- The task on the vector subcore of grid point `L`: its part of the output ends filled. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (iRow m d (tile L) ∗ vShr m d (tile L) ∗ oRow d (tile L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_kernel L iM (Memref.isWhole_whole _) vM (Memref.isWhole_whole _) oM (Memref.isWhole_whole _)
            sI (Memref.isWhole_whole _) sV (Memref.isWhole_whole _) sO (Memref.isWhole_whole _)
            cc0_scratch3 cc0_scratch4 cc0_scratch5 cc0_scratch6 cc0_scratch7 cc0_scratch8)
          fun _ => iprop((iRow m d (tile L) ∗ vShr m d (tile L) ∗ oRow d (tile L) (out m d))
            ∗ scopedBufs (V d (cV L) (jV L)) ∗ scopedSems0 (V d (cV L) (jV L))
            ∗ ∃ W', ⌜∀ q ∈ W', q ∈ W ∨ q.2 = none⌝ ∗ owes (V d (cV L) (jV L)) O W') := by
  rw [kernel_canon]
  simp only [Prog.bind_lift]
  rw [(K (F := F)).scopedBufs_V hF d (cV L) (jV L), SparseCore.Cfg.scopedSems0_V (Val := Elt F) d (cV L) (jV L), ownSems0_task, ownBufs_task]
  unfold iRow oRow
  rw [i_parts, o_parts, o_parts]
  iintro ⟨#Hlv, -, ⟨Hi, Hv, Ho⟩, ⟨⟨⟨%fi, Hsi⟩, ⟨%fv, Hsv⟩, ⟨%fo, Hso⟩⟩, Hbufs⟩, ⟨⟨Ht, H0, H1, H2, H3, Hs⟩, Hsems⟩, HO⟩
  ihave #Hm := (show levAts (K (F := F)).L (K (F := F)).lev ⊢ May d (cV L) (jV L) O from
    (K (F := F)).mayWaits_none (thr := V d (cV L) (jV L)) hO) $$ Hlv
  ihave HO := (show owes (V d (cV L) (jV L)) O W ⊢ Owes d (cV L) (jV L) O W by
    unfold Owes
    iintro H; iexists W; isplitr
    · ipureintro; exact fun q h => .inl h
    iexact H) $$ HO
  ihave Hi := (Entails.of_eq (bigSep_four _)) $$ Hi
  icases Hi with ⟨Hi0, Hi1, Hi2, Hi3⟩
  ihave Ho := (Entails.of_eq (bigSep_four _)) $$ Ho
  icases Ho with ⟨Ho0, Ho1, Ho2, Ho3⟩
  ihave Hsi := (Entails.of_eq ((sI_chunks d (cV L) (jV L) _).trans (bigSep_four _))) $$ Hsi
  icases Hsi with ⟨Hsi0, Hsi1, Hsi2, Hsi3⟩
  ihave Hso := (Entails.of_eq ((sO_chunks d (cV L) (jV L) _).trans (bigSep_four _))) $$ Hso
  icases Hso with ⟨Hso0, Hso1, Hso2, Hso3⟩
  imod (Transfers.batch_alloc' countersEmb (V d (cV L) (jV L)) (default : HIx 1) unitsO (Sent m d (cV L) (jV L) (tile L))
    (sm := .dma cc0_scratch8.sem) (E := Set.univ)) $$ Hs with HB
  -- the table and the four index chunks set out
  iapply (wp_fetchTable m d (cV L) (jV L) (tile L) fv) $$ [Hv Hsv Ht]
  · isplitl [Hv]; · iexact Hv
    isplitl [Hsv] <;> iassumption
  iintro Ht
  iapply (wp_fetch m d (cV L) (jV L) (tile L) 0 fi) $$ [Hi0 Hsi0 H0]
  · isplitl [Hi0]; · iexact Hi0
    isplitl [Hsi0] <;> iassumption
  iintro H0
  iapply (wp_fetch m d (cV L) (jV L) (tile L) 1 fi) $$ [Hi1 Hsi1 H1]
  · isplitl [Hi1]; · iexact Hi1
    isplitl [Hsi1] <;> iassumption
  iintro H1
  iapply (wp_fetch m d (cV L) (jV L) (tile L) 2 fi) $$ [Hi2 Hsi2 H2]
  · isplitl [Hi2]; · iexact Hi2
    isplitl [Hsi2] <;> iassumption
  iintro H2
  iapply (wp_fetch m d (cV L) (jV L) (tile L) 3 fi) $$ [Hi3 Hsi3 H3]
  · isplitl [Hi3]; · iexact Hi3
    isplitl [Hsi3] <;> iassumption
  iintro H3
  iapply (wp_arrive d (cV L) (jV L) O W) $$ [Ht HO]
  · isplitl [Ht]; · iexact Ht
    isplitl [HO]; · iexact HO
    iexact Hm
  iintro ⟨⟨Hsv, Hv⟩, Ht, HO⟩
  -- the chunks, one after another
  iapply (wp_chunk m d (cV L) (jV L) O W (tile L) 0 fo (m (oLoc d)) hpre) $$ [H0 HO Hsv Hso0 Ho0 HB]
  · isplitl [H0]; · iexact H0
    isplitl [HO]; · iexact HO
    isplitr; · iexact Hm
    isplitl [Hsv]; · iexact Hsv
    isplitl [Hso0]; · iexact Hso0
    isplitl [Ho0]; · iexact Ho0
    iexact HB
  iintro ⟨⟨Hsi0, Hi0⟩, H0, HO, Hsv, HB⟩
  iapply (wp_chunk m d (cV L) (jV L) O W (tile L) 1 fo (m (oLoc d)) hpre) $$ [H1 HO Hsv Hso1 Ho1 HB]
  · isplitl [H1]; · iexact H1
    isplitl [HO]; · iexact HO
    isplitr; · iexact Hm
    isplitl [Hsv]; · iexact Hsv
    isplitl [Hso1]; · iexact Hso1
    isplitl [Ho1]; · iexact Ho1
    iexact HB
  iintro ⟨⟨Hsi1, Hi1⟩, H1, HO, Hsv, HB⟩
  iapply (wp_chunk m d (cV L) (jV L) O W (tile L) 2 fo (m (oLoc d)) hpre) $$ [H2 HO Hsv Hso2 Ho2 HB]
  · isplitl [H2]; · iexact H2
    isplitl [HO]; · iexact HO
    isplitr; · iexact Hm
    isplitl [Hsv]; · iexact Hsv
    isplitl [Hso2]; · iexact Hso2
    isplitl [Ho2]; · iexact Ho2
    iexact HB
  iintro ⟨⟨Hsi2, Hi2⟩, H2, HO, Hsv, HB⟩
  iapply (wp_chunk m d (cV L) (jV L) O W (tile L) 3 fo (m (oLoc d)) hpre) $$ [H3 HO Hsv Hso3 Ho3 HB]
  · isplitl [H3]; · iexact H3
    isplitl [HO]; · iexact HO
    isplitr; · iexact Hm
    isplitl [Hsv]; · iexact Hsv
    isplitl [Hso3]; · iexact Hso3
    isplitl [Ho3]; · iexact Ho3
    iexact HB
  iintro ⟨⟨Hsi3, Hi3⟩, H3, HO, Hsv, HB⟩
  -- the four sends waited for
  iapply (wp_drain m d (cV L) (jV L) O W (tile L) 0 _ (show 0 + unitsO < unitsO * 4 by decide)) $$ [HB HO]
  · isplitl [HB]; · iexact HB
    isplitl [HO]; · iexact HO
    iexact Hm
  iintro ⟨HB, HO⟩
  iapply (wp_drain m d (cV L) (jV L) O W (tile L) 1 _ (show 0 + unitsO + unitsO < unitsO * 4 by decide)) $$ [HB HO]
  · isplitl [HB]; · iexact HB
    isplitl [HO]; · iexact HO
    iexact Hm
  iintro ⟨HB, HO⟩
  iapply (wp_drain m d (cV L) (jV L) O W (tile L) 2 _ (show 0 + unitsO + unitsO + unitsO < unitsO * 4 by decide)) $$ [HB HO]
  · isplitl [HB]; · iexact HB
    isplitl [HO]; · iexact HO
    iexact Hm
  iintro ⟨HB, HO⟩
  iapply (wp_drained m d (cV L) (jV L) O W (tile L) 3 _ (show 0 + unitsO + unitsO + unitsO + unitsO = unitsO * 4 by decide)) $$ [HB HO]
  · isplitl [HB]; · iexact HB
    isplitl [HO]; · iexact HO
    iexact Hm
  iintro ⟨HD, Hs, HO⟩
  ihave HD := (Entails.of_eq (bigSep_four _)) $$ HD
  icases HD with ⟨⟨Ho0, Hso0⟩, ⟨Ho1, Hso1⟩, ⟨Ho2, Hso2⟩, ⟨Ho3, Hso3⟩⟩
  rw [wp_pure]; imodintro
  unfold Owes
  isplitl [Hi0 Hi1 Hi2 Hi3 Hv Ho0 Ho1 Ho2 Ho3]
  · isplitl [Hi0 Hi1 Hi2 Hi3]
    · iapply (Entails.of_eq (bigSep_four _).symm)
      isplitl [Hi0]; · iexact Hi0
      isplitl [Hi1]; · iexact Hi1
      isplitl [Hi2] <;> iassumption
    isplitl [Hv]; · iexact Hv
    iapply (Entails.of_eq (bigSep_four _).symm)
    isplitl [Ho0]; · iexact Ho0
    isplitl [Ho1]; · iexact Ho1
    isplitl [Ho2] <;> iassumption
  isplitl [Hsi0 Hsi1 Hsi2 Hsi3 Hsv Hso0 Hso1 Hso2 Hso3 Hbufs]
  · isplitr [Hbufs]
    · isplitl [Hsi0 Hsi1 Hsi2 Hsi3]
      · iexists (ownI m d (tile L))
        iapply (Entails.of_eq ((sI_chunks d (cV L) (jV L) _).trans (bigSep_four _)).symm)
        isplitl [Hsi0]; · iexact Hsi0
        isplitl [Hsi1]; · iexact Hsi1
        isplitl [Hsi2] <;> iassumption
      isplitl [Hsv]; · iexists (tab m d); iexact Hsv
      iexists (ownO m d (tile L))
      iapply (Entails.of_eq ((sO_chunks d (cV L) (jV L) _).trans (bigSep_four _)).symm)
      isplitl [Hso0]; · iexact Hso0
      isplitl [Hso1]; · iexact Hso1
      isplitl [Hso2] <;> iassumption
    iexact Hbufs
  isplitl [Ht H0 H1 H2 H3 Hs Hsems]
  · isplitr [Hsems]
    · isplitl [Ht]; · iexact Ht
      isplitl [H0]; · iexact H0
      isplitl [H1]; · iexact H1
      isplitl [H2]; · iexact H2
      isplitl [H3] <;> iassumption
    iexact Hsems
  iexact HO

/-! ## The obligation -/

/-- The grid point of a core and a subcore. -/
def point (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_kernel (point c s)
          iM (Memref.isWhole_whole _) vM (Memref.isWhole_whole _) oM (Memref.isWhole_whole _)
          sI (Memref.isWhole_whole _) sV (Memref.isWhole_whole _) sO (Memref.isWhole_whole _)
          cc0_scratch3 cc0_scratch4 cc0_scratch5 cc0_scratch6 cc0_scratch7 cc0_scratch8) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (point ⟨_, hci.1⟩ ⟨_, hci.2⟩) hF hpre O W hO).trans (wp_mono frame _ _ fun _ => obl_post)

end

end Cert.KernelIdeal.Proof

end
-- ==== Proof.Run.lean ====
/-
  The whole run: the handshakes' set-up, the TensorCore's three steps (the table flattened, the lookup, the output
  given its four dimensions), and what the final memory holds.
-/
module

public import proofs.«01_k».proof.Proof.Task
public import Idealize.ShloMosaic.Lib.ReduceAll
public import proofs.«01_k».proof.Proof.Gen.Pre_tasks_in_range

@[expose] public section

noncomputable section

namespace Cert.KernelIdeal.Proof

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The handshakes at the launch -/

/-- The launch element: the handshakes' rounds; the transfers' counters start from nothing. -/
def u₀ : UU := (initOf (K (F := F)).hsCells (K (F := F)).hsToks, 1)

theorem nothing_owed :
    (bigSep Finset.univ fun thr : Thread nD τ => bigSep Finset.univ fun q : Fin 1 => (P (F := F) m).x q thr) = (iprop(emp) : sProp 𝕄) := by
  rw [bigSep_congr fun _ _ => bigSep_univ_of_subsingleton (0 : Fin 1)]
  exact bigSep_emp_const Finset.univ

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  rw [nothing_owed, show (bigSep Finset.univ fun _ : Dev nD => (iprop(emp) : sProp 𝕄)) = iprop(emp) from bigSep_emp_const _]
  unfold u₀
  iintro Hu
  ihave H := (ownU_pair (initOf (K (F := F)).hsCells (K (F := F)).hsToks) (1 : Counters)) $$ Hu
  icases H with ⟨H, -⟩
  imodintro
  isplitl [H]; · iexact H
  isplitr <;> iempintro

/-! ## The TensorCore's steps -/

abbrev dI : DevRef τ sig := Proc.devRef .tc (main_arg0 : Ref sig .tc)
abbrev dX : DevRef τ sig := Proc.devRef .tc (main_arg1 : Ref sig .tc)
abbrev dV : DevRef τ sig := Proc.devRef .tc (main_v0 : Ref sig .tc)
abbrev dO : DevRef τ sig := Proc.devRef .tc (main_v1 : Ref sig .tc)
abbrev dR : DevRef τ sig := Proc.devRef .tc (main_v2 : Ref sig .tc)

/-- The table flattened; the output given its four dimensions. -/
abbrev flatten : HloOp τ sig (Elt F) := StableHlo.reshape main_arg1 main_v0 rfl shapeCasts_S100x1_S100
abbrev unfoldOut : HloOp τ sig (Elt F) := StableHlo.reshape main_v1 main_v2 rfl shapeCasts_S16384_S16384x1x1x1

/-- The TensorCore's five arrays. -/
abbrev five : Finset (DevRef τ sig) := {dI, dX, dV, dO, dR}

theorem held_five (d : Dev nD) (W : Valuation τ sig (Elt F)) :
    (held (T d) five W : sProp 𝕄)
      = iprop((iLoc d ↦{fullShare} W dI) ∗ (xLoc d ↦{fullShare} W dX) ∗ (vLoc d ↦{fullShare} W dV) ∗ (oLoc d ↦{fullShare} W dO) ∗ rLoc d ↦{fullShare} W dR) := by
  unfold held five
  rw [SparseCore.bigSep_insert' (by decide), SparseCore.bigSep_insert' (by decide), SparseCore.bigSep_insert' (by decide),
    SparseCore.bigSep_insert' (by decide), bigSep_singleton]

theorem unscoped_five (d : Dev nD) (W : (b : Ref sig .tc) → Buf (Elt F) ((d.tc : Thread nD τ).loc b)) :
    (unscopedBufs d W : sProp 𝕄)
      = iprop((iLoc d ↦{fullShare} W main_arg0) ∗ (xLoc d ↦{fullShare} W main_arg1) ∗ (vLoc d ↦{fullShare} W main_v0)
          ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The contents at the launch, after the flattening, after the call, at the end. -/
def atStart (d : Dev nD) : Valuation τ sig (Elt F) := fun b => m (d, b)
def atCall (d : Dev nD) : Valuation τ sig (Elt F) := flatten.result (atStart m d)
def atReturn (d : Dev nD) : Valuation τ sig (Elt F) := Function.update (atCall m d) dO (out m d)
def atEnd (d : Dev nD) : Valuation τ sig (Elt F) := unfoldOut.result (atReturn m d)

theorem start_held (d : Dev nD) : (unscopedBufs d (fun b => m ((SparseCore.T d).loc b)) : sProp 𝕄) = held (T d) five (atStart m d) := by
  rw [unscoped_five, held_five]; rfl

theorem atCall_V (d : Dev nD) : atCall m d dV = tab m d := by
  unfold atCall; exact StableHlo.reshape_result ..
theorem atCall_ne (d : Dev nD) {b : Ref sig .tc} (h : b ≠ main_v0) : atCall m d (Proc.devRef .tc b) = m ((SparseCore.T d).loc b) :=
  StableHlo.reshape_result_ne _ _ _ _ _ _ _ h

theorem atReturn_O (d : Dev nD) : atReturn m d dO = out m d := Function.update_self _ _ _
theorem atReturn_ne (d : Dev nD) {b : DevRef τ sig} (h : b ≠ dO) : atReturn m d b = atCall m d b := Function.update_of_ne h _ _

theorem atEnd_R (d : Dev nD) : atEnd m d dR = res m d := by
  refine (StableHlo.reshape_result ..).trans ?_
  rw [atReturn_O]; rfl
theorem atEnd_ne (d : Dev nD) {b : Ref sig .tc} (h : b ≠ main_v2) (h' : b ≠ main_v1) (h'' : b ≠ main_v0) :
    atEnd m d (Proc.devRef .tc b) = m ((SparseCore.T d).loc b) :=
  ((StableHlo.reshape_result_ne _ _ _ _ _ _ _ h).trans (atReturn_ne m d (StableHlo.devRef_ne_of_ne h'))).trans (atCall_ne m d h'')

theorem call_held (d : Dev nD) :
    (held (T d) five (atCall m d) : sProp 𝕄)
      = iprop(iPts m d ∗ (xLoc d ↦{fullShare} m (xLoc d)) ∗ vPts m d ∗ oPts d (m (oLoc d)) ∗ rLoc d ↦{fullShare} m (rLoc d)) := by
  rw [held_five, atCall_V, atCall_ne m d (by decide), atCall_ne m d (by decide), atCall_ne m d (by decide), atCall_ne m d (by decide)]

theorem return_held (d : Dev nD) :
    (held (T d) five (atReturn m d) : sProp 𝕄)
      = iprop(iPts m d ∗ (xLoc d ↦{fullShare} m (xLoc d)) ∗ vPts m d ∗ oPts d (out m d) ∗ rLoc d ↦{fullShare} m (rLoc d)) := by
  rw [held_five, atReturn_O, atReturn_ne m d (by decide), atReturn_ne m d (by decide), atReturn_ne m d (by decide), atReturn_ne m d (by decide),
    atCall_V, atCall_ne m d (by decide), atCall_ne m d (by decide), atCall_ne m d (by decide)]

/-- What the TensorCore leaves for the claim: the arguments as they were, the result at its value. -/
abbrev FIN (d : Dev nD) : sProp 𝕄 := iprop(iPts m d ∗ (xLoc d ↦{fullShare} m (xLoc d)) ∗ rLoc d ↦{fullShare} res m d)

theorem end_held (d : Dev nD) : (held (T d) five (atEnd m d) : sProp 𝕄) ⊢ FIN m d := by
  rw [held_five, atEnd_R, atEnd_ne m d (b := main_arg0) (by decide) (by decide) (by decide), atEnd_ne m d (b := main_arg1) (by decide) (by decide) (by decide)]
  iintro ⟨Hi, Hx, -, -, Hr⟩
  isplitl [Hi]; · iexact Hi
  isplitl [Hx] <;> iassumption

theorem given (d : Dev nD) :
    (bigSep Finset.univ fun c : Fin ((K (F := F)).nCore 0) => (P m).st 0 d c) = iprop(iPts m d ∗ vPts m d ∗ oPts d (m (oLoc d))) :=
  bigSep_univ_of_subsingleton (0 : Fin 1)
theorem returned (d : Dev nD) :
    (bigSep Finset.univ fun c : Fin ((K (F := F)).nCore 0) => (P m).dn 0 d c) = iprop(iPts m d ∗ vPts m d ∗ oPts d (out m d)) :=
  bigSep_univ_of_subsingleton (0 : Fin 1)

theorem flatten_sub : (flatten (F := F)).bufs ⊆ five := by rw [StableHlo.reshape_bufs]; decide
theorem unfoldOut_sub : (unfoldOut (F := F)).bufs ⊆ five := by rw [StableHlo.reshape_bufs]; decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [start_held]
  simp only [main, wp_bind, wp_pure]
  iintro ⟨#Hctx, Hst, ⟨Hb, Hh, Hts, -⟩, -⟩
  -- the table flattened
  iapply (wp_hlo_within 𝒱 (SparseCore.T d) none Set.univ (op := flatten) (S := five) flatten_sub (V := atStart m d)) $$ [Hb Hh]
  · isplitl [Hb] <;> iassumption
  iintro ⟨Hb, Hh⟩
  ihave Hh := (Entails.of_eq (show held (T d) five (flatten.result (atStart m d)) = _ from call_held m d)) $$ Hh
  icases Hh with ⟨Hi, Hx, Hv, Ho, Hr⟩
  rw [wp_ret]; imodintro
  -- the lookup
  iapply ((K (F := F)).wp_run (D (F := F)) 𝒱 (EH := EH) (P := P m) κ d 0) $$ [Hst Hi Hx Hv Ho Hr Hb Hts]
  isplitr; · iexact Hctx
  isplitl [Hst]; · iexact Hst
  isplitl [Hi Hv Ho]
  · rw [given]
    isplitl [Hi]; · iexact Hi
    isplitl [Hv] <;> iassumption
  iintro ⟨Hst, Hdn⟩
  ihave Hdn := (Entails.of_eq (returned m d)) $$ Hdn
  icases Hdn with ⟨Hi, Hv, Ho⟩
  -- the output given its dimensions
  iapply (wp_hlo_within 𝒱 (SparseCore.T d) none Set.univ (op := unfoldOut) (S := five) unfoldOut_sub (V := atReturn m d)) $$ [Hb Hi Hx Hv Ho Hr]
  · isplitl [Hb]; · iexact Hb
    rw [return_held]
    isplitl [Hi]; · iexact Hi
    isplitl [Hx]; · iexact Hx
    isplitl [Hv]; · iexact Hv
    isplitl [Ho] <;> iassumption
  iintro ⟨Hb, Hh⟩
  ihave Hh := (show held (T d) five (unfoldOut.result (atReturn m d)) ⊢ FIN m d from end_held m d) $$ Hh
  rw [wp_ret]; imodintro; imodintro
  isplitl [Hst]; · iexact Hst
  isplitl [Hh]; · iexact Hh
  isplitl [Hb] <;> iassumption

/-! ## The final memory -/

def fq (d : Dev nD) (s' : Phys nD τ sig (Elt F)) : Prop :=
  s'.mem.mem (iLoc d) = m (iLoc d) ∧ s'.mem.mem (xLoc d) = m (xLoc d) ∧ s'.mem.mem (rLoc d) = res m d

/-- An array held whole is what the final memory holds. -/
theorem reads (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨Hi, Hx, Hr⟩, HSI⟩
  ihave H := (reads s' (iLoc d) (m (iLoc d))) $$ [HSI Hi]
  · isplitl [HSI] <;> iassumption
  icases H with ⟨%h1, HSI⟩
  ihave H := (reads s' (xLoc d) (m (xLoc d))) $$ [HSI Hx]
  · isplitl [HSI] <;> iassumption
  icases H with ⟨%h2, HSI⟩
  ihave H := (reads s' (rLoc d) (res m d)) $$ [HSI Hr]
  · isplitl [HSI] <;> iassumption
  icases H with ⟨%h3, -⟩
  ipureintro; exact ⟨h1, h2, h3⟩

/-- The run's outcome: arguments unchanged, the result at its value, every semaphore at zero. -/
def QC : PUnit × MemSt nD τ sig (Elt F) → Prop := fun r =>
  (∀ c : Dev nD, r.2.mem (iLoc c) = m (iLoc c) ∧ r.2.mem (xLoc c) = m (xLoc c) ∧ r.2.mem (rLoc c) = res m c) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-! ## The precondition, word by word -/

/-- A word that passes both comparisons is, read without a sign, below 100. -/
theorem below_of_compared (v : BitVec 32) (e : IntOp.andi (IntOp.cmpi .sge v 0#32) (IntOp.cmpi .slt v 100#32) = 1#1) : v.toNat < 100 := by
  obtain ⟨h0, h1⟩ := IntOp.andi_eq_one.1 e
  rw [IntOp.cmpi_sge, BitVec.toInt_eq_toNat_cond, BitVec.toInt_eq_toNat_cond] at h0
  rw [IntOp.cmpi_slt, BitVec.toInt_eq_toNat_cond, BitVec.toInt_eq_toNat_cond] at h1
  simp only [BitVec.toNat_ofNat, Nat.reducePow, Nat.reduceMod] at h0 h1
  omega

theorem below_of_pre (tasks : (⟨Cert.Pre_tasks_in_range.S16384, .i32⟩ : BufTy).Contents (Elt F))
    (table : (⟨Cert.Pre_tasks_in_range.S100x1, .f32⟩ : BufTy).Contents (Elt F))
    (h : Cert.Pre_tasks_in_range.fn (F := F) tasks table = fun _ => 1#1) (j : S16384.Idx) : (tasks j).toNat < 100 := by
  have : Subsingleton Cert.Pre_tasks_in_range.S_.Idx := ⟨fun a b => funext fun i => i.elim0⟩
  refine below_of_compared _ ?_
  exact Host.reduce_andi_all _ _ _ _ (Shape.Idx.first (s := Cert.Pre_tasks_in_range.S_) (by decide)) (congrFun h _) j

end Cert.KernelIdeal.Proof

end
-- ==== Proof.Reference.lean ====
/-
  The reference's value: under the precondition, word `b` of its result is the table's entry in the row that task `b`
  names.
-/
module

public import proofs.«01_k».proof.Proof.Gen.ReferenceIdeal.Run
public import Idealize.ShloMosaic.Lib.Routing.Ops
public import Idealize.ShloMosaic.Lib.Pipeline.Value
public import Idealize.ShloMosaic.Lib.ReduceAll

@[expose] public section

noncomputable section

namespace Cert.ReferenceIdeal.Proof

open Cert.ReferenceIdeal Cert.ReferenceIdeal.Gen
open Idealize.ShloMosaic Idealize.ShloMosaic.ValueIdx

variable {F : FTy → Type} [FloatOps F]
variable (tasks : IVec S16384 32) (table : FVec F S100x1 .f32)

/-! ## The reference's steps, named -/

/-- The tasks, a negative one counted from the table's end. -/
abbrev rows : IVec S16384 32 :=
  select (cmpi .slt tasks (broadcastInDim S16384 ![] bcast_S_S16384 (constantI S_ 32 0#32)))
    (addi tasks (broadcastInDim S16384 ![] bcast_S_S16384 (constantI S_ 32 100#32))) tasks

/-- The rows as a column. -/
abbrev column : IVec S16384x1 32 := broadcastInDim S16384x1 ![0] bcast_S16384_S16384x1_0 (rows tasks)

/-- Which rows lie in the table. -/
abbrev inside : IVec S16384x1 1 :=
  andi (cmpi .sge (column tasks) (broadcastInDim S16384x1 ![] bcast_S_S16384x1 (constantI S_ 32 0#32)))
    (cmpi .sle (column tasks)
      (broadcastInDim S16384x1 ![0, 1] bcast_S1x1_S16384x1_0_1 (broadcastInDim S1x1 ![1] bcast_S1_S1x1_1 (constantI S1 32 99#32))))

/-- The rows taken from the table, not-a-number where a row lies outside. -/
abbrev taken : FVec F S16384x1 .f32 :=
  select (broadcastInDim S16384x1 ![0] bcast_S16384_S16384x1_0
      (Host.reduce IntOp.andi (inside tasks) (constantI S_ 1 1#1) reducesTo_S16384x1_S16384_d1 h_S_))
    (Host.gather gather_S100x1_S16384x1_S16384x1_1_0_n_n_0_1_11 table (column tasks))
    (broadcastInDim S16384x1 ![] bcast_S_S16384x1 (constant S_ .f32 0x7FC00000#32))

/-- The result. -/
abbrev result : FVec F S16384x1x1x1 .f32 :=
  broadcastInDim S16384x1x1x1 ![0, 1] bcast_S16384x1_S16384x1x1x1_0_1 (taken tasks table)

/-! ## Their values -/

/-- A word below 100 reads the same with and without a sign. -/
theorem toInt_below {v : BitVec 32} (h : v.toNat < 100) : v.toInt = (v.toNat : ℤ) :=
  BitVec.toInt_eq_toNat_of_lt (by omega)

variable {tasks} (hin : ∀ j, (tasks j).toNat < 100)
include hin

theorem rows_eq : rows tasks = tasks := by
  funext j
  show Scalar.select (IntOp.cmpi .slt (tasks j) 0#32) (IntOp.addi (tasks j) 100#32) (tasks j) = tasks j
  rw [eq_zero_of_ne_one (b := IntOp.cmpi .slt (tasks j) 0#32), select_zero]
  rw [IntOp.cmpi_slt, toInt_below (hin j), show (0#32 : BitVec 32).toInt = 0 from by decide]
  omega

theorem column_apply (b : Fin 16384) : column tasks (ix2 b (0 : Fin 1)) = tasks (ix1 b) := by
  unfold column
  rw [rows_eq hin]
  exact broadcastInDim_apply _ _ _ _ (ix1 b) fun a => by fin_cases a; rfl

theorem inside_apply (i : S16384x1.Idx) : inside tasks i = 1#1 := by
  obtain ⟨b, rfl⟩ : ∃ b : Fin 16384, i = ix2 b (0 : Fin 1) := ⟨i 0, by
    funext a; fin_cases a
    · rfl
    · exact Subsingleton.elim (α := Fin 1) _ _⟩
  show IntOp.andi (IntOp.cmpi .sge (column tasks (ix2 b (0 : Fin 1))) 0#32) (IntOp.cmpi .sle (column tasks (ix2 b (0 : Fin 1))) 99#32) = 1#1
  have h := hin (ix1 b)
  rw [column_apply hin, IntOp.andi_eq_one, IntOp.cmpi_sge, IntOp.cmpi_sle, toInt_below h,
    show (0#32 : BitVec 32).toInt = 0 from by decide, show (99#32 : BitVec 32).toInt = 99 from by decide]
  omega

theorem taken_apply (b : Fin 16384) :
    taken tasks table (ix2 b (0 : Fin 1)) = table (ix2 (⟨(tasks (ix1 b)).toNat, hin _⟩ : Fin 100) (0 : Fin 1)) := by
  show Scalar.select (broadcastInDim S16384x1 ![0] bcast_S16384_S16384x1_0
      (Host.reduce IntOp.andi (inside tasks) (constantI S_ 1 1#1) reducesTo_S16384x1_S16384_d1 h_S_) (ix2 b (0 : Fin 1))) _ _ = _
  rw [broadcastInDim_apply _ _ _ _ (ix1 b) fun a => by fin_cases a; rfl,
    Host.reduce_andi_one _ _ _ _ _ rfl (inside_apply hin), select_one]
  refine Routing.gather_row gather_S100x1_S16384x1_S16384x1_1_0_n_n_0_1_11 rfl rfl rfl rfl rfl table _ b 0 ⟨(tasks (ix1 b)).toNat, hin _⟩ ?_ (by decide)
  rw [column_apply hin]
  rw [BitVec.ofNat_toNat, BitVec.setWidth_eq]

/-- The reference's result, word by word. -/
theorem result_apply (i : S16384x1x1x1.Idx) :
    result tasks table i = table (ix2 (⟨(tasks (ix1 (i 0))).toNat, hin _⟩ : Fin 100) (0 : Fin 1)) :=
  (broadcastInDim_apply _ _ _ _ (ix2 (i 0) (0 : Fin 1)) fun a => by fin_cases a <;> rfl).trans (taken_apply table hin (i 0))

end Cert.ReferenceIdeal.Proof

end
-- ==== Proof.Equal.lean ====
/-
  The kernel's result and the reference's are the same array.
-/
module

public import proofs.«01_k».proof.Proof.Run
public import proofs.«01_k».proof.Proof.Reference

@[expose] public section

noncomputable section

namespace Cert.KernelIdeal.Proof

open Cert.KernelIdeal Cert.KernelIdeal.Gen
open Idealize.ShloMosaic Idealize.ShloMosaic.ValueIdx

variable {F : FTy → Type} [FloatOps F]
variable (m : (ℓ : Loc nD τ sig) → Buf (Elt F) ℓ) (d : Dev nD)

/-- The flattened table's entry `r` is the table's entry in row `r`. -/
theorem tab_apply (r : Fin 100) : tab m d (Shape.ofLane (d := ![100]) r) = m (xLoc d) (ix2 r (0 : Fin 1)) :=
  shapeCast_apply (s := S100x1) (t := S100) _ _ _ (ix2 r (0 : Fin 1))
    (((Shape.rowMajor_val_two (d := ![100, 1]) (ix2 r (0 : Fin 1))).trans (by show r.val * 1 + 0 = r.val; omega)).trans
      (Shape.rowMajor_val_one (d := ![100]) _).symm)

/-- The output and the result, word by word. -/
theorem out_apply (h : PreOK m) (b : Fin 16384) :
    out m d (ix1 b) = m (xLoc d) (ix2 (⟨(m (iLoc d) (ix1 b)).toNat, h d _⟩ : Fin 100) (0 : Fin 1)) :=
  (tab_apply m d _).trans (congrArg (fun r : Fin 100 => m (xLoc d) (ix2 r (0 : Fin 1))) (Fin.ext (Nat.mod_eq_of_lt (h d _))))

theorem res_apply (h : PreOK m) (b : Fin 16384) (i : S16384x1x1x1.Idx) (hb : (i 0).val = b.val) :
    res m d i = m (xLoc d) (ix2 (⟨(m (iLoc d) (ix1 b)).toNat, h d _⟩ : Fin 100) (0 : Fin 1)) := by
  refine Eq.trans (shapeCast_apply _ _ _ (ix1 b) ?_) (out_apply m d h b)
  have h1 : (i 1).val < 1 := (i 1).isLt
  have h2 : (i 2).val < 1 := (i 2).isLt
  have h3 : (i 3).val < 1 := (i 3).isLt
  rw [Shape.rowMajor_val_four, Shape.rowMajor_val_one]
  show b.val = (((i 0).val * 1 + (i 1).val) * 1 + (i 2).val) * 1 + (i 3).val
  omega

/-- What the reference computes from the kernel's arguments is what the kernel leaves. -/
theorem reference_eq (h : PreOK m) : Cert.ReferenceIdeal.Proof.result (m (iLoc d)) (m (xLoc d)) = res m d := by
  funext i
  exact (Cert.ReferenceIdeal.Proof.result_apply (m (xLoc d)) (h d) i).trans (res_apply m d h (i 0) i rfl).symm

end Cert.KernelIdeal.Proof

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_tasks_in_range
public import proofs.«01_k».proof.Proof.Equal
public import Idealize.ShloMosaic.Adequacy
public import Idealize.ShloMosaic.Init

@[expose] public section

noncomputable section

namespace Cert.Proof

open Idealize.ShloMosaic Idealize.SL.Sem

/-- The precondition's array of ones, word by word. -/
theorem ok_ideal (m : (ℓ : Loc Cert.KernelIdeal.nD Cert.KernelIdeal.τ Cert.KernelIdeal.sig) → Buf (Elt Ideal) ℓ) (h : Cert.Pre_KernelIdeal m) :
    Cert.KernelIdeal.Proof.PreOK (F := Ideal) m :=
  fun d j => Cert.KernelIdeal.Proof.below_of_pre (F := Ideal) _ _ (h d) j

theorem ok_bits (m : (ℓ : Loc Cert.Kernel.nD Cert.Kernel.τ Cert.Kernel.sig) → Buf (Elt Bits) ℓ) (h : Cert.Pre_Kernel m) :
    Cert.KernelIdeal.Proof.PreOK (F := Bits) m :=
  fun d j => Cert.KernelIdeal.Proof.below_of_pre (F := Bits) _ _ (h d) j

theorem frame_kernel : Cert.quiescent_Kernel := fun m ρ hpre =>
  (θ_run Cert.KernelIdeal.defs _ _).mono (fun _ h => ⟨fun c => ⟨(h.1 c).1, (h.1 c).2.1⟩, h.2⟩)
    (Cert.KernelIdeal.Proof.run_main (F := Bits) m ρ (ok_bits m hpre))

theorem frame_kernel_ideal : Cert.quiescent_KernelIdeal := fun m ρ hpre =>
  (θ_run Cert.KernelIdeal.defs _ _).mono (fun _ h => ⟨fun c => ⟨(h.1 c).1, (h.1 c).2.1⟩, h.2⟩)
    (Cert.KernelIdeal.Proof.run_main (F := Ideal) m ρ (ok_ideal m hpre))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_in_range : Cert.quiescent_ReferenceIdeal_pre_tasks_in_range := fun m ρ _ => frame_reference m ρ True.intro

theorem values : Cert.algebraic_KernelIdeal_ReferenceIdeal := fun m ρ m' ρ' hpre hargs =>
  ⟨fun c => Cert.KernelIdeal.Proof.res m c,
    (θ_run Cert.KernelIdeal.defs _ _).mono (fun _ h c => ⟨(h.1 c).2.2, (h.1 c).1, (h.1 c).2.1⟩)
      (Cert.KernelIdeal.Proof.run_main (F := Ideal) m ρ (ok_ideal m hpre)),
    (θ_run Cert.ReferenceIdeal.defs _ _).mono (fun _ h c => ⟨by
        refine (h c).1.trans ?_
        rw [(hargs c).1, (hargs c).2]
        exact Cert.KernelIdeal.Proof.reference_eq m c (ok_ideal m hpre), (h c).2.1, (h c).2.2⟩)
      (Cert.ReferenceIdeal.Value.run m' ρ')⟩

theorem claim : Cert.Claim :=
  ⟨Cert.Kernel.Gen.facts, Cert.KernelIdeal.Gen.facts, Cert.ReferenceIdeal.Gen.facts, Cert.Pre_tasks_in_range.Gen.facts,
    frame_kernel, frame_kernel_ideal, frame_reference, frame_reference_in_range, trivial, values⟩

end Cert.Proof

end
